-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v10) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x8192x3 : Shape := ⟨3, ![8, 8192, 3]⟩
abbrev S8x8x1024x3 : Shape := ⟨4, ![8, 8, 1024, 3]⟩
abbrev S8x1024x8x3 : Shape := ⟨4, ![8, 1024, 8, 3]⟩
abbrev S8x3x8192 : Shape := ⟨3, ![8, 3, 8192]⟩
abbrev S8x8x8x128 : Shape := ⟨4, ![8, 8, 8, 128]⟩
abbrev S8x1x8192 : Shape := ⟨3, ![8, 1, 8192]⟩
abbrev S8x8192 : Shape := ⟨2, ![8, 8192]⟩
abbrev S1x1024x8x3 : Shape := ⟨4, ![1, 1024, 8, 3]⟩
abbrev S1x3x8192 : Shape := ⟨3, ![1, 3, 8192]⟩
abbrev S1x8x8x128 : Shape := ⟨4, ![1, 8, 8, 128]⟩
abbrev S1x1x8192 : Shape := ⟨3, ![1, 1, 8192]⟩
abbrev S8x128 : Shape := ⟨2, ![8, 128]⟩
abbrev S8 : Shape := ⟨1, ![8]⟩
abbrev S8x1 : Shape := ⟨2, ![8, 1]⟩
abbrev S1x1x8x3 : Shape := ⟨4, ![1, 1, 8, 3]⟩
abbrev S8x3 : Shape := ⟨2, ![8, 3]⟩
abbrev S1x1x128 : Shape := ⟨3, ![1, 1, 128]⟩
abbrev S128 : Shape := ⟨1, ![128]⟩
abbrev S1x128 : Shape := ⟨2, ![1, 128]⟩
abbrev S1x1x8x128 : Shape := ⟨4, ![1, 1, 8, 128]⟩
abbrev S8192 : Shape := ⟨1, ![8192]⟩
abbrev S1x8192 : Shape := ⟨2, ![1, 8192]⟩

abbrev nBuf : Space → Nat
  | .hbm => 15
  | .vmem => 14
  | .smem => 0
  | _ => 0

abbrev bufTy : (tb : Table) → Fin (tcTables nBuf tb) → BufTy
  | .hbm, ⟨0, _⟩ => ⟨S8x8192x3, .f32⟩
  | .hbm, ⟨1, _⟩ => ⟨S8x8192x3, .f32⟩
  | .hbm, ⟨2, _⟩ => ⟨S8x8x1024x3, .f32⟩
  | .hbm, ⟨3, _⟩ => ⟨S8x1024x8x3, .f32⟩
  | .hbm, ⟨4, _⟩ => ⟨S8x3x8192, .f32⟩
  | .hbm, ⟨5, _⟩ => ⟨S8x8x8x128, .f32⟩
  | .hbm, ⟨6, _⟩ => ⟨S8x8x8x128, .i32⟩
  | .hbm, ⟨7, _⟩ => ⟨S8x1x8192, .f32⟩
  | .hbm, ⟨8, _⟩ => ⟨S8x1x8192, .i32⟩
  | .hbm, ⟨9, _⟩ => ⟨S8x8x8x128, .f32⟩
  | .hbm, ⟨10, _⟩ => ⟨S8x8192, .f32⟩
  | .hbm, ⟨11, _⟩ => ⟨S8x8x8x128, .i32⟩
  | .hbm, ⟨12, _⟩ => ⟨S8x8192, .i32⟩
  | .hbm, ⟨13, _⟩ => ⟨S8x8192, .f32⟩
  | .hbm, ⟨14, _⟩ => ⟨S8x8192, .i32⟩
  | .local _ .vmem, ⟨0, _⟩ => ⟨S1x1024x8x3, .f32⟩
  | .local _ .vmem, ⟨1, _⟩ => ⟨S1x1024x8x3, .f32⟩
  | .local _ .vmem, ⟨2, _⟩ => ⟨S1x3x8192, .f32⟩
  | .local _ .vmem, ⟨3, _⟩ => ⟨S1x3x8192, .f32⟩
  | .local _ .vmem, ⟨4, _⟩ => ⟨S1x8x8x128, .f32⟩
  | .local _ .vmem, ⟨5, _⟩ => ⟨S1x8x8x128, .f32⟩
  | .local _ .vmem, ⟨6, _⟩ => ⟨S1x8x8x128, .i32⟩
  | .local _ .vmem, ⟨7, _⟩ => ⟨S1x8x8x128, .i32⟩
  | .local _ .vmem, ⟨8, _⟩ => ⟨S1x1x8192, .f32⟩
  | .local _ .vmem, ⟨9, _⟩ => ⟨S1x1x8192, .f32⟩
  | .local _ .vmem, ⟨10, _⟩ => ⟨S1x1x8192, .i32⟩
  | .local _ .vmem, ⟨11, _⟩ => ⟨S1x1x8192, .i32⟩
  | .local _ .vmem, ⟨12, _⟩ => ⟨S8x8192, .f32⟩
  | .local _ .vmem, ⟨13, _⟩ => ⟨S8x8192, .i32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3_0 : Ref sig .tc := ⟨.hbm, 5, rfl⟩
abbrev main_call0_v3_1 : Ref sig .tc := ⟨.hbm, 6, rfl⟩
abbrev main_call0_v3_2 : Ref sig .tc := ⟨.hbm, 7, rfl⟩
abbrev main_call0_v3_3 : Ref sig .tc := ⟨.hbm, 8, rfl⟩
abbrev main_call0_v4 : Ref sig .tc := ⟨.hbm, 9, rfl⟩
abbrev main_v0_0 : Ref sig .tc := ⟨.hbm, 10, rfl⟩
abbrev main_call0_v6 : Ref sig .tc := ⟨.hbm, 11, rfl⟩
abbrev main_v0_2 : Ref sig .tc := ⟨.hbm, 12, rfl⟩
abbrev main_v0_1 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_3 : BitVec 32 := 0#32
  let c8_i32 : BitVec 32 := 8#32
  let v10 : BitVec 32 := Scalar.addi c0_i32_3 c8_i32
  let c1_i32 : BitVec 32 := 1#32
  ⟨c0_i32_3, v10, c1_i32⟩
@[reducible] def k0_t2_loop : Scf.Loop 32 :=
  let c0_i32_25 : BitVec 32 := 0#32
  let c128_i32 : BitVec 32 := 128#32
  let v35 : BitVec 32 := Scalar.addi c0_i32_25 c128_i32
  let c1_i32_26 : BitVec 32 := 1#32
  ⟨c0_i32_25, v35, c1_i32_26⟩
def k0_off1 (k0_t1 : Fin k0_t1_loop.trips) (k0_t2 : Fin k0_t2_loop.trips) : Fin 4 → Nat :=
  let c0_44 : Index := 0#32
  let c0_i32_3 : BitVec 32 := 0#32
  let c1_i32 : BitVec 32 := 1#32
  let arg9 : BitVec 32 := Scf.iv c0_i32_3 c1_i32 k0_t1
  let c128_i32_43 : BitVec 32 := 128#32
  let v84 : BitVec 32 := Scalar.muli arg9 c128_i32_43
  let c0_i32_25 : BitVec 32 := 0#32
  let c1_i32_26 : BitVec 32 := 1#32
  let arg10 : BitVec 32 := Scf.iv c0_i32_25 c1_i32_26 k0_t2
  let v85 : BitVec 32 := Scalar.addi v84 arg10
  let v86 : Index := Scalar.indexCast v85
  let c0_45 : Index := 0#32
  let c0_46 : Index := 0#32
  ![0, v86.toNat, 0, 0]
def k0_off2 (k0_t1 : Fin k0_t1_loop.trips) : Fin 4 → Nat :=
  let c0_32 : Index := 0#32
  let c0_i32_3 : BitVec 32 := 0#32
  let c1_i32 : BitVec 32 := 1#32
  let arg9 : BitVec 32 := Scf.iv c0_i32_3 c1_i32 k0_t1
  let v56 : Index := Scalar.indexCast arg9
  let c0_33 : Index := 0#32
  let c0_34 : Index := 0#32
  ![0, v56.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x8x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8192 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x8192x3 : Shape := ⟨3, ![8, 8192, 3]⟩
abbrev S8x8192x1x3 : Shape := ⟨4, ![8, 8192, 1, 3]⟩
abbrev S8x1x8192x3 : Shape := ⟨4, ![8, 1, 8192, 3]⟩
abbrev S8x8192x8192x3 : Shape := ⟨4, ![8, 8192, 8192, 3]⟩
abbrev S_ : Shape := ⟨0, ![]⟩
abbrev S8x8192x8192 : Shape := ⟨3, ![8, 8192, 8192]⟩
abbrev S8x8192 : Shape := ⟨2, ![8, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8x8192x3, .f32⟩
  | .hbm, ⟨2, _⟩ => ⟨S8x8192x1x3, .f32⟩
  | .hbm, ⟨3, _⟩ => ⟨S8x1x8192x3, .f32⟩
  | .hbm, ⟨4, _⟩ => ⟨S8x8192x8192x3, .f32⟩
  | .hbm, ⟨5, _⟩ => ⟨S8x8192x8192x3, .f32⟩
  | .hbm, ⟨6, _⟩ => ⟨S8x8192x8192x3, .f32⟩
  | .hbm, ⟨7, _⟩ => ⟨S8x8192x8192x3, .f32⟩
  | .hbm, ⟨8, _⟩ => ⟨S_, .f32⟩
  | .hbm, ⟨9, _⟩ => ⟨S8x8192x8192, .f32⟩
  | .hbm, ⟨10, _⟩ => ⟨S_, .f32⟩
  | .hbm, ⟨11, _⟩ => ⟨S8x8192, .f32⟩
  | .hbm, ⟨12, _⟩ => ⟨S8x8192x8192, .i32⟩
  | .hbm, ⟨13, _⟩ => ⟨S_, .f32⟩
  | .hbm, ⟨14, _⟩ => ⟨S_, .i32⟩
  | .hbm, ⟨15, _⟩ => ⟨S8x8192, .f32⟩
  | .hbm, ⟨16, _⟩ => ⟨S8x8192, .i32⟩
  | .hbm, ⟨17, _⟩ => ⟨S_, .f32⟩
  | .hbm, ⟨18, _⟩ => ⟨S8x8192, .f32⟩
  | .hbm, ⟨19, _⟩ => ⟨S8x8192x8192, .i32⟩
  | .hbm, ⟨20, _⟩ => ⟨S_, .f32⟩
  | .hbm, ⟨21, _⟩ => ⟨S_, .i32⟩
  | .hbm, ⟨22, _⟩ => ⟨S8x8192, .f32⟩
  | .hbm, ⟨23, _⟩ => ⟨S8x8192, .i32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_call1_v0 : Ref sig .tc := ⟨.hbm, 19, rfl⟩
abbrev main_call1_cst : Ref sig .tc := ⟨.hbm, 20, rfl⟩
abbrev main_call1_c : Ref sig .tc := ⟨.hbm, 21, rfl⟩
abbrev main_call1_v1_0 : Ref sig .tc := ⟨.hbm, 22, rfl⟩
abbrev main_v10 : Ref sig .tc := ⟨.hbm, 23, rfl⟩

abbrev nD : Nat := 1
abbrev τ : Topo := Topo.v7x

variable {F : FTy → Type} [FloatOps F]
-- ==== Proof.Step.lean ====
module

public import proofs.«01_k».proof.Proof.Gen.KernelIdeal.Skeleton
public import Idealize.ShloMosaic.Lib.Pipeline.Value
public import Idealize.ShloMosaic.Lib.ValueIdx

/-!
What one strip of the search computes, as functions of values alone: eight query points `q` (one row of
`xyz1` in each of the eight sublane groups), the whole second cloud `y`, the running column minima `cm` and
the rows `cr` they were first reached at.
-/

@[expose] public section

noncomputable section

namespace Cert.KernelIdeal.Body

open Cert.KernelIdeal Cert.KernelIdeal.Gen
open Idealize.ShloMosaic Idealize.ShloMosaic.TcCoe Idealize.ShloMosaic.ValueIdx

variable {F : FTy → Type} [FloatOps F]

/-- What the loop over strips carries: the previous strip's row minima per lane, the blocks they came from, and
    the two registers the finished strips' results are collected in. -/
abbrev Acc (F : FTy → Type) : Type := Vec F S8x128 .f32 × Vec F S8x128 .i32 × Vec F S8x128 .f32 × Vec F S8x128 .i32

/-- Coordinate `c` of the 128 points of block `j` lies inside the second cloud's array. -/
theorem inbY (c j : ℕ) (hc : c < 3) (hj : j < 64) : ∀ a, (![0, c, 128 * j] : Fin 3 → ℕ) a + S1x1x128.size a ≤ S1x3x8192.size a := by
  intro a
  match a with
  | ⟨0, _⟩ => show 0 + 1 ≤ 1; omega
  | ⟨1, _⟩ => show c + 1 ≤ 3; omega
  | ⟨2, _⟩ => show 128 * j + 128 ≤ 8192; omega

/-- Columns `128 j … 128 j + 127` lie inside the column arrays. -/
theorem inbC (j : ℕ) (hj : j < 64) : ∀ a, (![0, 128 * j] : Fin 2 → ℕ) a + S8x128.size a ≤ S8x8192.size a := by
  intro a
  match a with
  | ⟨0, _⟩ => show 0 + 8 ≤ 8; omega
  | ⟨1, _⟩ => show 128 * j + 128 ≤ 8192; omega

/-- The rectangle of block `j` in the column arrays. -/
abbrev rectC (j : ℕ) (hj : j < 64) : Rect S8x8192 := Rect.unit (s := S8x8192) ![0, 128 * j] S8x128.size (inbC j hj)

/-- Coordinate `c` of the points of block `j`. -/
abbrev blockY (y : Vec F S1x3x8192 .f32) (c j : ℕ) (hc : c < 3) (hj : j < 64) : Vec F S1x1x128 .f32 :=
  View.ld y (Rect.unit (s := S1x3x8192) ![0, c, 128 * j] S1x1x128.size (inbY c j hc hj))

/-- The squared distances of the eight query points to the 128 points of block `j`. -/
def dist (q : Vec F S1x1x8x3 .f32) (y : Vec F S1x3x8192 .f32) (j : ℕ) (hj : j < 64) : FVec F S8x128 .f32 :=
  k0_pay18 (k0_pay6 q) (k0_pay7 q) (k0_pay8 q) (k0_pay17 (blockY y 0 j (by decide) hj)) (blockY y 1 j (by decide) hj)
    (blockY y 2 j (by decide) hj)

/-- The running minimum per lane over `n` blocks from block `s` on, with the block it was first reached in. -/
def runMin (q : Vec F S1x1x8x3 .f32) (y : Vec F S1x3x8192 .f32) (s : ℕ) : (n : ℕ) → s + n ≤ 64 → FVec F S8x128 .f32 × IVec S8x128 32
  | 0, _ => (broadcast S8x128 (Scalar.ofBits .f32 0x7F800000#32), broadcast S8x128 0#32)
  | n + 1, h =>
    (minimumf (runMin q y s n (by omega)).1 (dist q y (s + n) (by omega)),
      select (cmpf .olt (dist q y (s + n) (by omega)) (runMin q y s n (by omega)).1) (broadcast S8x128 (BitVec.ofNat 32 (s + n)))
        (runMin q y s n (by omega)).2)

/-- The better of two candidates lane by lane, the first one where they tie. -/
def better (a b : FVec F S8x128 .f32 × IVec S8x128 32) : FVec F S8x128 .f32 × IVec S8x128 32 :=
  (minimumf a.1 b.1, select (cmpf .olt b.1 a.1) b.2 a.2)

/-- The minimum per lane over all 64 blocks: four running minima over 16 blocks each, combined in order. -/
def rowBest (q : Vec F S1x1x8x3 .f32) (y : Vec F S1x3x8192 .f32) : FVec F S8x128 .f32 × IVec S8x128 32 :=
  better (better (better (runMin q y 0 16 (by decide)) (runMin q y 16 16 (by decide))) (runMin q y 32 16 (by decide)))
    (runMin q y 48 16 (by decide))

/-- What strip `k` leaves in the loop's carried values: its own row minima, and the previous strip's result in
    lane `k - 1` of the collecting registers. -/
def nextAcc (v0 v1 : IVec S8x128 32) (k : Fin k0_t2_loop.trips) (q : Vec F S1x1x8x3 .f32) (y : Vec F S1x3x8192 .f32) (a : Acc F) : Acc F :=
  ((rowBest q y).1, (rowBest q y).2, k0_pay3 v0 0#32 1#32 k a.1 a.2.2.1, k0_pay4 v0 v1 0#32 1#32 k a.1 a.2.1 a.2.2.2)

/-- Block `j` of the column minima after the strip. -/
def colMin (q : Vec F S1x1x8x3 .f32) (y : Vec F S1x3x8192 .f32) (cm : Vec F S8x8192 .f32) (j : ℕ) (hj : j < 64) : FVec F S8x128 .f32 :=
  shapeCast S8x128 (minimumf (View.ld cm (rectC j hj)) (dist q y j hj)) shapeCasts_S8x128_S8x128

/-- Block `j` of the rows after the strip: the strip's own row `r` where its distance is strictly smaller. -/
def colRow (r : BitVec 32) (q : Vec F S1x1x8x3 .f32) (y : Vec F S1x3x8192 .f32) (cm : Vec F S8x8192 .f32) (cr : Vec F S8x8192 .i32)
    (j : ℕ) (hj : j < 64) : IVec S8x128 32 :=
  shapeCast S8x128 (select (cmpf .olt (dist q y j hj) (View.ld cm (rectC j hj))) (broadcast S8x128 r) (View.ld cr (rectC j hj)))
    shapeCasts_S8x128_S8x128

/-- The stores of the strip into the column minima, last first. -/
def piecesM (q : Vec F S1x1x8x3 .f32) (y : Vec F S1x3x8192 .f32) (cm : Vec F S8x8192 .f32) :
    (n : ℕ) → n ≤ 64 → List (View.Piece (Elt F) S8x8192 .f32)
  | 0, _ => []
  | n + 1, h => ⟨rectC n (by omega), colMin q y cm n (by omega)⟩ :: piecesM q y cm n (by omega)

/-- The stores of the strip into the rows, last first. -/
def piecesR (r : BitVec 32) (q : Vec F S1x1x8x3 .f32) (y : Vec F S1x3x8192 .f32) (cm : Vec F S8x8192 .f32) (cr : Vec F S8x8192 .i32) :
    (n : ℕ) → n ≤ 64 → List (View.Piece (Elt F) S8x8192 .i32)
  | 0, _ => []
  | n + 1, h => ⟨rectC n (by omega), colRow r q y cm cr n (by omega)⟩ :: piecesR r q y cm cr n (by omega)

/-- The block a column belongs to. -/
theorem blk_lt (i : S8x8192.Idx) : (i 1).val / 128 < 64 := by
  have h : (i 1).val < 8192 := (i 1).isLt
  omega

/-- The place of a column array's index inside its block. -/
abbrev inBlk (i : S8x8192.Idx) : S8x128.Idx := ix2 (n0 := 8) (n1 := 128) (i 0) ⟨(i 1).val % 128, Nat.mod_lt _ (by decide)⟩

/-- The column minima after the strip, as one array. -/
def stepM (q : Vec F S1x1x8x3 .f32) (y : Vec F S1x3x8192 .f32) (cm : Vec F S8x8192 .f32) : Vec F S8x8192 .f32 :=
  fun i => colMin q y cm ((i 1).val / 128) (blk_lt i) (inBlk i)

/-- The rows after the strip, as one array. -/
def stepR (r : BitVec 32) (q : Vec F S1x1x8x3 .f32) (y : Vec F S1x3x8192 .f32) (cm : Vec F S8x8192 .f32) (cr : Vec F S8x8192 .i32) :
    Vec F S8x8192 .i32 :=
  fun i => colRow r q y cm cr ((i 1).val / 128) (blk_lt i) (inBlk i)

/-- An index of block `j` lies in block `j`, at its own place there. -/
theorem emb_rectC (j : ℕ) (hj : j < 64) (x : S8x128.Idx) :
    (((rectC j hj).emb x) 1).val / 128 = j ∧ inBlk ((rectC j hj).emb x) = x := by
  have h1 : (((rectC j hj).emb x) 1).val = 128 * j + 1 * (x 1).val := rfl
  have h0 : (((rectC j hj).emb x) 0).val = 0 + 1 * (x 0).val := rfl
  have hx : (x 1).val < 128 := (x 1).isLt
  refine ⟨by omega, ?_⟩
  funext a
  match a with
  | ⟨0, _⟩ => exact Fin.ext (by show (((rectC j hj).emb x) 0).val = (x 0).val; omega)
  | ⟨1, _⟩ => exact Fin.ext (by show (((rectC j hj).emb x) 1).val % 128 = (x 1).val; omega)

/-- Every store into the column minima is a block of `stepM`. -/
theorem piecesM_restrict (q : Vec F S1x1x8x3 .f32) (y : Vec F S1x3x8192 .f32) (cm : Vec F S8x8192 .f32) :
    ∀ (n : ℕ) (hn : n ≤ 64), ∀ p ∈ piecesM q y cm n hn, ∀ x : p.1.shape.Idx, p.2 x = stepM q y cm (p.1.emb x)
  | 0, _, p, hp, _ => absurd hp List.not_mem_nil
  | n + 1, hn, p, hp, x => by
    rcases List.mem_cons.mp hp with rfl | hp
    · obtain ⟨h, h'⟩ := emb_rectC n (by omega) x
      show colMin q y cm n _ x = colMin q y cm _ _ _
      rw [h']
      congr 1
      exact h.symm
    · exact piecesM_restrict q y cm n _ p hp x

/-- Every store into the rows is a block of `stepR`. -/
theorem piecesR_restrict (r : BitVec 32) (q : Vec F S1x1x8x3 .f32) (y : Vec F S1x3x8192 .f32) (cm : Vec F S8x8192 .f32) (cr : Vec F S8x8192 .i32) :
    ∀ (n : ℕ) (hn : n ≤ 64), ∀ p ∈ piecesR r q y cm cr n hn, ∀ x : p.1.shape.Idx, p.2 x = stepR r q y cm cr (p.1.emb x)
  | 0, _, p, hp, _ => absurd hp List.not_mem_nil
  | n + 1, hn, p, hp, x => by
    rcases List.mem_cons.mp hp with rfl | hp
    · obtain ⟨h, h'⟩ := emb_rectC n (by omega) x
      show colRow r q y cm cr n _ x = colRow r q y cm cr _ _ _
      rw [h']
      congr 1
      exact h.symm
    · exact piecesR_restrict r q y cm cr n _ p hp x

/-- An index below column `128 n` lies in one of the first `n` blocks. -/
theorem mem_rectC (i : S8x8192.Idx) (n : ℕ) (hn : n < 64) (h : 128 * n ≤ (i 1).val) (h' : (i 1).val < 128 * n + 128) :
    i ∈ (rectC n hn).set := by
  rw [Rect.mem_set_unit]
  intro a
  match a with
  | ⟨0, _⟩ =>
    have h8 : (i 0).val < 8 := (i 0).isLt
    exact ⟨Nat.zero_le _, by show (i 0).val < 0 + 8; omega⟩
  | ⟨1, _⟩ => exact ⟨h, h'⟩

theorem piecesM_cover (q : Vec F S1x1x8x3 .f32) (y : Vec F S1x3x8192 .f32) (cm : Vec F S8x8192 .f32) (i : S8x8192.Idx) :
    ∀ (n : ℕ) (hn : n ≤ 64), (i 1).val < 128 * n → ∃ p ∈ piecesM q y cm n hn, i ∈ p.1.set
  | 0, _, h => absurd h (Nat.not_lt_zero _)
  | n + 1, hn, h => by
    by_cases hlt : (i 1).val < 128 * n
    · obtain ⟨p, hp, hi⟩ := piecesM_cover q y cm i n (by omega) hlt
      exact ⟨p, List.mem_cons_of_mem _ hp, hi⟩
    · exact ⟨_, List.mem_cons_self, mem_rectC i n (by omega) (by omega) (by omega)⟩

theorem piecesR_cover (r : BitVec 32) (q : Vec F S1x1x8x3 .f32) (y : Vec F S1x3x8192 .f32) (cm : Vec F S8x8192 .f32) (cr : Vec F S8x8192 .i32)
    (i : S8x8192.Idx) : ∀ (n : ℕ) (hn : n ≤ 64), (i 1).val < 128 * n → ∃ p ∈ piecesR r q y cm cr n hn, i ∈ p.1.set
  | 0, _, h => absurd h (Nat.not_lt_zero _)
  | n + 1, hn, h => by
    by_cases hlt : (i 1).val < 128 * n
    · obtain ⟨p, hp, hi⟩ := piecesR_cover r q y cm cr i n (by omega) hlt
      exact ⟨p, List.mem_cons_of_mem _ hp, hi⟩
    · exact ⟨_, List.mem_cons_self, mem_rectC i n (by omega) (by omega) (by omega)⟩

/-- Stores that are all blocks of one array and together cover it leave that array. -/
theorem read_of_pieces {sig' : RefSig} {κ : Kind} {sp : Space} {s : Shape} {e : EltTy} (v : View sig' κ sp s e)
    (f : v.ty.Contents (Elt F)) (G : s.Idx → Elt F e) (L : List (View.Piece (Elt F) s e))
    (hL : ∀ p ∈ L, ∀ x : p.1.shape.Idx, p.2 x = G (p.1.emb x)) (hc : ∀ y, ∃ p ∈ L, y ∈ p.1.set) :
    v.read (Elt F) (v.writes (Elt F) f L) = G :=
  funext fun y => (View.read_writes_apply_eq_canon v f y L (hc y)).trans (View.canon_apply_of_pieces G L hL y (hc y))

/-- The stores of a strip leave `stepM` in the column minima … -/
theorem read_piecesM {sig' : RefSig} {κ : Kind} {sp : Space} (v : View sig' κ sp S8x8192 .f32) (f : v.ty.Contents (Elt F))
    (q : Vec F S1x1x8x3 .f32) (y : Vec F S1x3x8192 .f32) (cm : Vec F S8x8192 .f32) :
    v.read (Elt F) (v.writes (Elt F) f (piecesM q y cm 64 (by decide))) = stepM q y cm :=
  read_of_pieces v f _ _ (piecesM_restrict q y cm 64 _) fun i => piecesM_cover q y cm i 64 _ (i 1).isLt

/-- … and `stepR` in the rows. -/
theorem read_piecesR {sig' : RefSig} {κ : Kind} {sp : Space} (v : View sig' κ sp S8x8192 .i32) (f : v.ty.Contents (Elt F))
    (r : BitVec 32) (q : Vec F S1x1x8x3 .f32) (y : Vec F S1x3x8192 .f32) (cm : Vec F S8x8192 .f32) (cr : Vec F S8x8192 .i32) :
    v.read (Elt F) (v.writes (Elt F) f (piecesR r q y cm cr 64 (by decide))) = stepR r q y cm cr :=
  read_of_pieces v f _ _ (piecesR_restrict r q y cm cr 64 _) fun i => piecesR_cover r q y cm cr i 64 _ (i 1).isLt

/-! ## Iterating the strips -/

/-- The carried values, the column minima and the rows. -/
abbrev State (F : FTy → Type) : Type := Acc F × Vec F S8x8192 .f32 × Vec F S8x8192 .i32

/-- The eight query points strip `k` of group `g` loads. -/
abbrev loadQ (x : Vec F S1x1024x8x3 .f32) (g : Fin k0_t1_loop.trips) (k : Fin k0_t2_loop.trips) : Vec F S1x1x8x3 .f32 :=
  View.ld x (Rect.unit (s := S1x1024x8x3) (k0_off1 g k) S1x1x8x3.size (k0_off1_inb g k))

/-- The row of strip `k` of group `g`, as a word. -/
def rowWord (g : Fin k0_t1_loop.trips) (k : Fin k0_t2_loop.trips) : BitVec 32 :=
  Scalar.addi (Scalar.muli (Scf.iv 0#32 1#32 g) 128#32) (Scf.iv 0#32 1#32 k)

variable (v0 v1 : IVec S8x128 32) (x : Vec F S1x1024x8x3 .f32) (y : Vec F S1x3x8192 .f32)

/-- One strip. -/
def stripNext (g : Fin k0_t1_loop.trips) (k : Fin k0_t2_loop.trips) (s : State F) : State F :=
  (nextAcc v0 v1 k (loadQ x g k) y s.1, stepM (loadQ x g k) y s.2.1, stepR (rowWord g k) (loadQ x g k) y s.2.1 s.2.2)

/-- The first `n` strips of group `g`. -/
def strips (g : Fin k0_t1_loop.trips) (s : State F) : ℕ → State F
  | 0 => s
  | n + 1 => if h : n < k0_t2_loop.trips then stripNext v0 v1 x y g ⟨n, h⟩ (strips g s n) else strips g s n

theorem strips_succ (g : Fin k0_t1_loop.trips) (s : State F) (k : Fin k0_t2_loop.trips) :
    strips v0 v1 x y g s (k.val + 1) = stripNext v0 v1 x y g k (strips v0 v1 x y g s k.val) := dif_pos k.isLt

/-- What a group starts from: its carried values are loaded from the first block of the column arrays. -/
abbrev groupInit (cm : Vec F S8x8192 .f32) (cr : Vec F S8x8192 .i32) : State F :=
  ((View.ld cm (rectC 0 (by decide)), View.ld cr (rectC 0 (by decide)), View.ld cm (rectC 0 (by decide)), View.ld cr (rectC 0 (by decide))), cm, cr)

/-- What group `g` ends at from given column arrays. -/
def groupEnd (g : Fin k0_t1_loop.trips) (c : Vec F S8x8192 .f32 × Vec F S8x8192 .i32) : State F :=
  strips v0 v1 x y g (groupInit c.1 c.2) k0_t2_loop.trips

/-- The column arrays after the first `n` groups: they start at `+∞` and row 0. -/
def cols : ℕ → Vec F S8x8192 .f32 × Vec F S8x8192 .i32
  | 0 => (k0_pay439, k0_pay440)
  | n + 1 => if h : n < k0_t1_loop.trips then (groupEnd v0 v1 x y ⟨n, h⟩ (cols n)).2 else cols n

theorem cols_succ (g : Fin k0_t1_loop.trips) : cols v0 v1 x y (g.val + 1) = (groupEnd v0 v1 x y g (cols v0 v1 x y g.val)).2 := dif_pos g.isLt

/-- What group `g` ends at in the whole search. -/
def groupAt (g : Fin k0_t1_loop.trips) : State F := groupEnd v0 v1 x y g (cols v0 v1 x y g.val)

/-- There are eight groups of 128 strips. -/
theorem trips1 : k0_t1_loop.trips = 8 := by decide
theorem trips2 : k0_t2_loop.trips = 128 := by decide

/-- The group an index of the row results belongs to, and its place there. -/
abbrev grpOf (i : S1x8x8x128.Idx) : Fin k0_t1_loop.trips := ⟨(i 1).val, by rw [trips1]; exact (i 1).isLt⟩
abbrev inGrp (i : S1x8x8x128.Idx) : S1x1x8x128.Idx := ix4 (n0 := 1) (n1 := 1) (n2 := 8) (n3 := 128) 0 0 (i 2) (i 3)

/-- The row minima … -/
def out3 : Vec F S1x8x8x128 .f32 := fun i => k0_pay445 (groupAt v0 v1 x y (grpOf i)).1.1 (groupAt v0 v1 x y (grpOf i)).1.2.2.1 (inGrp i)
/-- … their columns, … -/
def out4 : Vec F S1x8x8x128 .i32 := fun i =>
  k0_pay446 (groupAt v0 v1 x y (grpOf i)).1.1 (groupAt v0 v1 x y (grpOf i)).1.2.1 (groupAt v0 v1 x y (grpOf i)).1.2.2.2 (inGrp i)
/-- … the column minima … -/
def out5 : Vec F S1x1x8192 .f32 := k0_pay448 (cols v0 v1 x y k0_t1_loop.trips).1
/-- … and their rows. -/
def out6 : Vec F S1x1x8192 .i32 := k0_pay449 (cols v0 v1 x y k0_t1_loop.trips).1 (cols v0 v1 x y k0_t1_loop.trips).2

end Cert.KernelIdeal.Body
end
-- ==== Proof.Trip.lean ====
module

public import proofs.«01_k».proof.Proof.Step
public import Idealize.ShloMosaic.Lib.Exec
public import Idealize.ShloMosaic.Lib.Tactic
public import Idealize.ShloMosaic.Lib.Pipeline.Kit

@[expose] public section

set_option maxRecDepth 65536
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords)
  (arg1 : Memref sig .tc .vmem S1x1024x8x3 .f32) (harg1 : arg1.IsWhole) (arg2 : Memref sig .tc .vmem S1x3x8192 .f32) (harg2 : arg2.IsWhole)
  (arg3 : Memref sig .tc .vmem S1x8x8x128 .f32) (harg3 : arg3.IsWhole) (arg4 : Memref sig .tc .vmem S1x8x8x128 .i32) (harg4 : arg4.IsWhole)
  (arg5 : Memref sig .tc .vmem S1x1x8192 .f32) (harg5 : arg5.IsWhole) (arg6 : Memref sig .tc .vmem S1x1x8192 .i32) (harg6 : arg6.IsWhole)
  (arg7 : Memref sig .tc .vmem S8x8192 .f32) (harg7 : arg7.IsWhole) (arg8 : Memref sig .tc .vmem S8x8192 .i32) (harg8 : arg8.IsWhole)
  (v0 v1 : IVec S8x128 32) (g : Fin k0_t1_loop.trips) (arg9 : BitVec 32)

/-- The buffers one strip touches. -/
abbrev Held (X1 : BufTy.Contents (Elt F) arg1.view.ty) (X2 : BufTy.Contents (Elt F) arg2.view.ty)
    (f7 : BufTy.Contents (Elt F) arg7.view.ty) (f8 : BufTy.Contents (Elt F) arg8.view.ty) : sProp 𝕄 :=
  iprop((arg1.view.loc (c : Thread nD τ) ↦[arg1.view.set]{fullShare} X1) ∗ (arg2.view.loc (c : Thread nD τ) ↦[arg2.view.set]{fullShare} X2)
    ∗ (arg7.view.loc (c : Thread nD τ) ↦[arg7.view.set]{fullShare} f7) ∗ (arg8.view.loc (c : Thread nD τ) ↦[arg8.view.set]{fullShare} f8))

def strip (X1 : BufTy.Contents (Elt F) arg1.view.ty) (X2 : BufTy.Contents (Elt F) arg2.view.ty) (k : Fin k0_t2_loop.trips) (acc : Acc F)
    (f7 : BufTy.Contents (Elt F) arg7.view.ty) (f8 : BufTy.Contents (Elt F) arg8.view.ty) :
    Σ' (R : Acc F) (L7 : List (View.Piece (Elt F) S8x8192 .f32)), { L8 : List (View.Piece (Elt F) S8x8192 .i32) // ∀ (E : Set ℕ),
      Held c arg1 arg2 arg7 arg8 X1 X2 f7 f8
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 v0 v1 g arg9 k acc)
          (fun y => iprop(⌜y = R⌝ ∗ Held c arg1 arg2 arg7 arg8 X1 X2 (arg7.view.writes (Elt F) f7 L7) (arg8.view.writes (Elt F) f8 L8))) } := by
  have hk : k.val < 128 := Nat.lt_of_lt_of_le k.isLt k0_t2_abs.2.1
  refine ⟨?_, ?_, ?_, fun E => ?run⟩
  case run =>
    unfold k0_t2_body
    iintro ⟨HR1, HR2, HW7, HW8⟩
    sl_exec
    sl_step
    sl_close

variable (X1 : BufTy.Contents (Elt F) arg1.view.ty) (X2 : BufTy.Contents (Elt F) arg2.view.ty) (k : Fin k0_t2_loop.trips) (acc : Acc F)
  (f7 : BufTy.Contents (Elt F) arg7.view.ty) (f8 : BufTy.Contents (Elt F) arg8.view.ty)

theorem strip_acc :
    (strip 𝒱 c bd i arg1 harg1 arg2 harg2 arg3 harg3 arg4 harg4 arg5 harg5 arg6 harg6 arg7 harg7 arg8 harg8 v0 v1 g arg9 X1 X2 k acc f7 f8).1
      = nextAcc v0 v1 k (loadQ (arg1.view.read (Elt F) X1) g k) (arg2.view.read (Elt F) X2) acc := rfl

theorem strip_piecesM :
    (strip 𝒱 c bd i arg1 harg1 arg2 harg2 arg3 harg3 arg4 harg4 arg5 harg5 arg6 harg6 arg7 harg7 arg8 harg8 v0 v1 g arg9 X1 X2 k acc f7 f8).2.1
      = piecesM (loadQ (arg1.view.read (Elt F) X1) g k) (arg2.view.read (Elt F) X2) (arg7.view.read (Elt F) f7) 64 (by decide) := rfl

theorem strip_piecesR :
    (strip 𝒱 c bd i arg1 harg1 arg2 harg2 arg3 harg3 arg4 harg4 arg5 harg5 arg6 harg6 arg7 harg7 arg8 harg8 v0 v1 g arg9 X1 X2 k acc f7 f8).2.2.1
      = piecesR (Scalar.addi (Scalar.muli arg9 128#32) (Scf.iv 0#32 1#32 k)) (loadQ (arg1.view.read (Elt F) X1) g k) (arg2.view.read (Elt F) X2)
          (arg7.view.read (Elt F) f7) (arg8.view.read (Elt F) f8) 64 (by decide) := rfl

/-- One strip: it yields `nextAcc` and leaves `stepM` and `stepR` in the column arrays. -/
theorem strip_wp (E : Set ℕ) :
    Held c arg1 arg2 arg7 arg8 X1 X2 f7 f8
    ⊢ wp frame (wpE (defs₀ (F := F)) 𝒱 (c : Thread nD τ) bd) E
        (k0_t2_body (F := F) i arg1 harg1 arg2 harg2 arg3 harg3 arg4 harg4 arg5 harg5 arg6 harg6 arg7 harg7 arg8 harg8 v0 v1 g arg9 k acc)
        (fun r => iprop(⌜r = nextAcc v0 v1 k (loadQ (arg1.view.read (Elt F) X1) g k) (arg2.view.read (Elt F) X2) acc⌝
          ∗ (∃ f f', Held c arg1 arg2 arg7 arg8 X1 X2 f f'
            ∗ ⌜arg7.view.read (Elt F) f = stepM (loadQ (arg1.view.read (Elt F) X1) g k) (arg2.view.read (Elt F) X2) (arg7.view.read (Elt F) f7)⌝
            ∗ ⌜arg8.view.read (Elt F) f' = stepR (Scalar.addi (Scalar.muli arg9 128#32) (Scf.iv 0#32 1#32 k))
                (loadQ (arg1.view.read (Elt F) X1) g k) (arg2.view.read (Elt F) X2) (arg7.view.read (Elt F) f7) (arg8.view.read (Elt F) f8)⌝))) := by
  iintro H
  iapply (wp_wand_r Idealize.ShloMosaic.frame (wpE (defs₀ (F := F)) 𝒱 (c : Thread nD τ) bd) E)
  isplitl [H]
  · iapply ((strip 𝒱 c bd i arg1 harg1 arg2 harg2 arg3 harg3 arg4 harg4 arg5 harg5 arg6 harg6 arg7 harg7 arg8 harg8 v0 v1 g arg9 X1 X2 k acc f7 f8).2.2.2 E)
    iexact H
  · iintro %r ⟨%hr, H⟩
    isplitr [H]
    · ipureintro; rw [hr, strip_acc]
    · iexists _; iexists _
      isplitl [H]; · iexact H
      isplitr []
      · ipureintro; rw [strip_piecesM]; exact read_piecesM _ _ _ _ _
      · ipureintro; rw [strip_piecesR]; exact read_piecesR _ _ _ _ _ _ _

end Cert.KernelIdeal.Body
end
-- ==== Proof.Loops.lean ====
module

public import proofs.«01_k».proof.Proof.Trip
public import Idealize.ShloMosaic.Lib.WritesUnit

/-!
The two nested loops of the kernel, each by its invariant: before strip `k` the carried values and the column
arrays are those of the first `k` strips (`strips`); before group `g` the column arrays are those of the first `g`
groups (`cols`) and the row results hold the groups before `g`.
-/

@[expose] public section

set_option maxRecDepth 65536
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords)
  (arg1 : Memref sig .tc .vmem S1x1024x8x3 .f32) (harg1 : arg1.IsWhole) (arg2 : Memref sig .tc .vmem S1x3x8192 .f32) (harg2 : arg2.IsWhole)
  (arg3 : Memref sig .tc .vmem S1x8x8x128 .f32) (harg3 : arg3.IsWhole) (arg4 : Memref sig .tc .vmem S1x8x8x128 .i32) (harg4 : arg4.IsWhole)
  (arg5 : Memref sig .tc .vmem S1x1x8192 .f32) (harg5 : arg5.IsWhole) (arg6 : Memref sig .tc .vmem S1x1x8192 .i32) (harg6 : arg6.IsWhole)
  (arg7 : Memref sig .tc .vmem S8x8192 .f32) (harg7 : arg7.IsWhole) (arg8 : Memref sig .tc .vmem S8x8192 .i32) (harg8 : arg8.IsWhole)
  (v0 v1 : IVec S8x128 32)

/-! ## The loop over the strips of a group -/

/-- Before strip `k` of group `g`, the group having started at `s`. -/
abbrev stripInv (g : Fin k0_t1_loop.trips) (X1 : BufTy.Contents (Elt F) arg1.view.ty) (X2 : BufTy.Contents (Elt F) arg2.view.ty)
    (s : State F) (k : ℕ) (acc : Acc F) : sProp 𝕄 :=
  iprop(∃ f f', Held c arg1 arg2 arg7 arg8 X1 X2 f f'
    ∗ ⌜arg7.view.read (Elt F) f = (strips v0 v1 (arg1.view.read (Elt F) X1) (arg2.view.read (Elt F) X2) g s k).2.1⌝
    ∗ ⌜arg8.view.read (Elt F) f' = (strips v0 v1 (arg1.view.read (Elt F) X1) (arg2.view.read (Elt F) X2) g s k).2.2⌝
    ∗ ⌜acc = (strips v0 v1 (arg1.view.read (Elt F) X1) (arg2.view.read (Elt F) X2) g s k).1⌝)

/-- One strip keeps the invariant. -/
theorem stripInv_step (g : Fin k0_t1_loop.trips) (X1 : BufTy.Contents (Elt F) arg1.view.ty) (X2 : BufTy.Contents (Elt F) arg2.view.ty)
    (s : State F) (k : Fin k0_t2_loop.trips) (acc : Acc F) :
    stripInv c arg1 arg2 arg7 arg8 v0 v1 g X1 X2 s k.val acc
    ⊢ wp frame (wpE (defs₀ (F := F)) 𝒱 (c : Thread nD τ) bd) E
        (k0_t2_body (F := F) i arg1 harg1 arg2 harg2 arg3 harg3 arg4 harg4 arg5 harg5 arg6 harg6 arg7 harg7 arg8 harg8 v0 v1 g (Scf.iv 0#32 1#32 g) k acc)
        (stripInv c arg1 arg2 arg7 arg8 v0 v1 g X1 X2 s (k.val + 1)) := by
  iintro ⟨%f, %f', H, %h7, %h8, %hacc⟩
  iapply (wp_wand_r Idealize.ShloMosaic.frame (wpE (defs₀ (F := F)) 𝒱 (c : Thread nD τ) bd) E)
  isplitl [H]
  · iapply (strip_wp 𝒱 c bd i arg1 harg1 arg2 harg2 arg3 harg3 arg4 harg4 arg5 harg5 arg6 harg6 arg7 harg7 arg8 harg8 v0 v1 g (Scf.iv 0#32 1#32 g) X1 X2 k acc f f' E)
    iexact H
  · iintro %r ⟨%hr, %e, %e', H, %he, %he'⟩
    iexists e; iexists e'
    isplitl [H]; · iexact H
    rw [strips_succ]
    isplitr []; · ipureintro; rw [he, h7]; rfl
    isplitr []; · ipureintro; rw [he', h7, h8]; rfl
    ipureintro; rw [hr, hacc]; rfl

/-! ## The loop over the groups -/

/-- Before group `n`: the row results of the groups before it, and the column arrays they leave. -/
abbrev groupInv (X1 : BufTy.Contents (Elt F) arg1.view.ty) (X2 : BufTy.Contents (Elt F) arg2.view.ty) (n : ℕ) (_ : Unit) : sProp 𝕄 :=
  iprop(∃ f3 f4 f7 f8, Held c arg1 arg2 arg7 arg8 X1 X2 f7 f8
    ∗ (arg3.view.loc (c : Thread nD τ) ↦[arg3.view.set]{fullShare} f3) ∗ (arg4.view.loc (c : Thread nD τ) ↦[arg4.view.set]{fullShare} f4)
    ∗ ⌜arg7.view.read (Elt F) f7 = (cols v0 v1 (arg1.view.read (Elt F) X1) (arg2.view.read (Elt F) X2) n).1⌝
    ∗ ⌜arg8.view.read (Elt F) f8 = (cols v0 v1 (arg1.view.read (Elt F) X1) (arg2.view.read (Elt F) X2) n).2⌝
    ∗ ⌜∀ j : S1x8x8x128.Idx, (j 1).val < n → arg3.view.read (Elt F) f3 j = out3 v0 v1 (arg1.view.read (Elt F) X1) (arg2.view.read (Elt F) X2) j⌝
    ∗ ⌜∀ j : S1x8x8x128.Idx, (j 1).val < n → arg4.view.read (Elt F) f4 j = out4 v0 v1 (arg1.view.read (Elt F) X1) (arg2.view.read (Elt F) X2) j⌝)

/-- Storing group `g`'s rows completes the groups up to and including `g`. -/
theorem read_group {sig' : RefSig} {κ : Kind} {sp : Space} {e : EltTy} (v : View sig' κ sp S1x8x8x128 e) (f : v.ty.Contents (Elt F))
    (g : Fin k0_t1_loop.trips) (w : S1x1x8x128.Idx → Elt F e) (G : S1x8x8x128.Idx → Elt F e)
    (hw : ∀ j : S1x8x8x128.Idx, (j 1).val = g.val → w (inGrp j) = G j)
    (hf : ∀ j : S1x8x8x128.Idx, (j 1).val < g.val → v.read (Elt F) f j = G j) (j : S1x8x8x128.Idx) (hj : (j 1).val < g.val + 1) :
    v.read (Elt F) (v.writes (Elt F) f [⟨Rect.unit (k0_off2 g) S1x1x8x128.size (k0_off2_inb g), w⟩]) j = G j := by
  by_cases h : (j 1).val = g.val
  · refine (View.read_writes_cons_unit_of_mem v f (k0_off2_inb g) w [] j (inGrp j) (k0_off2_eq g) fun a => ?_).trans (hw j h)
    match a with
    | ⟨0, _⟩ =>
      have h0 : (j 0).val < 1 := (j 0).isLt
      show (j 0).val = 0 + 0; omega
    | ⟨1, _⟩ => show (j 1).val = g.val + 0; omega
    | ⟨2, _⟩ => show (j 2).val = 0 + (j 2).val; omega
    | ⟨3, _⟩ => show (j 3).val = 0 + (j 3).val; omega
  · refine (View.read_writes_cons_unit_of_not_mem v f (k0_off2_inb g) w [] j (k0_off2_eq g) 1 (Or.inl ?_)).trans (hf j (by omega))
    show (j 1).val < g.val; omega

/-- One group keeps the invariant. -/
theorem groupInv_step (X1 : BufTy.Contents (Elt F) arg1.view.ty) (X2 : BufTy.Contents (Elt F) arg2.view.ty) (g : Fin k0_t1_loop.trips) (u : Unit) :
    groupInv c arg1 arg2 arg3 arg4 arg7 arg8 v0 v1 X1 X2 g.val u
    ⊢ wp frame (wpE (defs₀ (F := F)) 𝒱 (c : Thread nD τ) bd) E
        (k0_t1_body (F := F) i arg1 harg1 arg2 harg2 arg3 harg3 arg4 harg4 arg5 harg5 arg6 harg6 arg7 harg7 arg8 harg8 v0 v1 g u)
        (groupInv c arg1 arg2 arg3 arg4 arg7 arg8 v0 v1 X1 X2 (g.val + 1)) := by
  iintro ⟨%f3, %f4, %f7, %f8, ⟨H1, H2, H7, H8⟩, H3, H4, %h7, %h8, %h3, %h4⟩
  unfold k0_t1_body
  let L : LoopInv (M := MT nD τ sig Unit (Elt F) ℕ (UR sig nD τ) ℕ) Idealize.ShloMosaic.frame (wpE (defs₀ (F := F)) 𝒱 (c : Thread nD τ) bd) E k0_t2_loop.lb k0_t2_loop.ub k0_t2_loop.st k0_t2_ok
      (groupInit (arg7.view.read (Elt F) f7) (arg8.view.read (Elt F) f8)).1
      (k0_t2_body (F := F) i arg1 harg1 arg2 harg2 arg3 harg3 arg4 harg4 arg5 harg5 arg6 harg6 arg7 harg7 arg8 harg8 v0 v1 g (Scf.iv 0#32 1#32 g)) :=
    ⟨stripInv c arg1 arg2 arg7 arg8 v0 v1 g X1 X2 (groupInit (arg7.view.read (Elt F) f7) (arg8.view.read (Elt F) f8)),
      stripInv_step 𝒱 c bd E i arg1 harg1 arg2 harg2 arg3 harg3 arg4 harg4 arg5 harg5 arg6 harg6 arg7 harg7 arg8 harg8 v0 v1 g X1 X2 _⟩
  sl_exec
  sl_step
  have hs : strips v0 v1 (arg1.view.read (Elt F) X1) (arg2.view.read (Elt F) X2) g
      (groupInit (arg7.view.read (Elt F) f7) (arg8.view.read (Elt F) f8)) (Scf.trips k0_t2_loop.lb k0_t2_loop.ub k0_t2_loop.st)
      = groupAt v0 v1 (arg1.view.read (Elt F) X1) (arg2.view.read (Elt F) X2) g := by
    rw [h7, h8]; rfl
  simp only [hs] at hL4 hL5 ⊢
  iexists _; iexists _; iexists fL0; iexists f'L1
  isplitl [H1 H2 H7 H8]
  · isplitl [H1]; · iexact H1
    isplitl [H2]; · iexact H2
    isplitl [H7]; · iexact H7
    iexact H8
  isplitl [H3]; · iexact H3
  isplitl [H4]; · iexact H4
  isplitr []; · ipureintro; rw [hL4, cols_succ]; rfl
  isplitr []; · ipureintro; rw [hL5, cols_succ]; rfl
  isplitr []
  · ipureintro
    refine read_group arg3.view f3 g _ _ (fun j hj => ?_) h3
    have e : g = grpOf j := Fin.ext hj.symm
    subst e; rfl
  · ipureintro
    refine read_group arg4.view f4 g _ _ (fun j hj => ?_) h4
    have e : g = grpOf j := Fin.ext hj.symm
    subst e; rfl

end Cert.KernelIdeal.Body
end
-- ==== Proof.Body.lean ====
module

public import proofs.«01_k».proof.Proof.Loops
public import proofs.«01_k».proof.Proof.Gen.KernelIdeal.Frame
public import Idealize.ShloMosaic.Lib.VecWindow

/-!
The kernel's body at one grid point, and the run of the whole program. From the two input blocks the body leaves
the row results (`out3`, `out4`) and the column results (`out5`, `out6`) in its four output buffers, whatever its
two scratch arrays held; the launch theorem turns that into the run of the program, at any float semantics.
-/

@[expose] public section

set_option maxRecDepth 65536
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The lane numbers the kernel compares against. -/
abbrev lanes : IVec S8x128 32 := iota .tc S8x128 32 [1] iota_S8x128_d1_w32

/-- The kernel's run on whole buffers: the inputs stay, the four outputs end at `out3` … `out6` of the inputs. -/
theorem kernel_run (𝒱 : Variants) (c : Dev nD) (bd : Option 𝒱.V) (E : Set ℕ) (i : grid0.Coords)
    (arg1 : Memref sig .tc .vmem S1x1024x8x3 .f32) (harg1 : arg1.IsWhole) (arg2 : Memref sig .tc .vmem S1x3x8192 .f32) (harg2 : arg2.IsWhole)
    (arg3 : Memref sig .tc .vmem S1x8x8x128 .f32) (harg3 : arg3.IsWhole) (arg4 : Memref sig .tc .vmem S1x8x8x128 .i32) (harg4 : arg4.IsWhole)
    (arg5 : Memref sig .tc .vmem S1x1x8192 .f32) (harg5 : arg5.IsWhole) (arg6 : Memref sig .tc .vmem S1x1x8192 .i32) (harg6 : arg6.IsWhole)
    (arg7 : Memref sig .tc .vmem S8x8192 .f32) (harg7 : arg7.IsWhole) (arg8 : Memref sig .tc .vmem S8x8192 .i32) (harg8 : arg8.IsWhole)
    (x : Vec F S1x1024x8x3 .f32) (y : Vec F S1x3x8192 .f32) (K : PUnit → sProp 𝕄) :
    iprop(owns (c : Thread nD τ) arg1 fullShare x ∗ owns (c : Thread nD τ) arg2 fullShare y
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ f, arg7.view.loc (c : Thread nD τ) ↦[arg7.view.set]{fullShare} f) ∗ (∃ f, arg8.view.loc (c : Thread nD τ) ↦[arg8.view.set]{fullShare} f)
        ∗ (iprop(owns (c : Thread nD τ) arg1 fullShare x ∗ owns (c : Thread nD τ) arg2 fullShare y
            ∗ owns (c : Thread nD τ) arg3 fullShare (out3 lanes lanes x y) ∗ owns (c : Thread nD τ) arg4 fullShare (out4 lanes lanes x y)
            ∗ owns (c : Thread nD τ) arg5 fullShare (out5 lanes lanes x y) ∗ owns (c : Thread nD τ) arg6 fullShare (out6 lanes lanes x y)
            ∗ (∃ f, arg7.view.loc (c : Thread nD τ) ↦[arg7.view.set]{fullShare} f) ∗ (∃ f, arg8.view.loc (c : Thread nD τ) ↦[arg8.view.set]{fullShare} f)) -∗ K ⟨⟩))
      ⊢ wp frame (wpE (defs₀ (F := F)) 𝒱 (c : Thread nD τ) bd) E
          (cc0__cd_kernel (F := F) i arg1 harg1 arg2 harg2 arg3 harg3 arg4 harg4 arg5 harg5 arg6 harg6 arg7 harg7 arg8 harg8) K := by
  unfold owns
  iintro ⟨⟨%X1, %hX1, H1⟩, ⟨%X2, %hX2, H2⟩, ⟨%d3, %f3, -, H3⟩, ⟨%d4, %f4, -, H4⟩, ⟨%d5, %f5, -, H5⟩, ⟨%d6, %f6, -, H6⟩, ⟨%f7, H7⟩, ⟨%f8, H8⟩, Hk⟩
  subst hX1; subst hX2
  rw [cc0__cd_kernel_eq_skeleton]
  unfold cc0__cd_kernel_skel
  rw [k0_part66_eq_skeleton]
  unfold k0_part66_skel
  generalize hv : (iota .tc S8x128 32 [1] iota_S8x128_d1_w32 : IVec S8x128 32) = v0
  sl_exec
  have e7 := View.read_writes_full (Val := Elt F) arg7.view f7 inb_S8x8192_S8x8192_0_0 (k0_pay439 (F := F)) []
  have e8 := View.read_writes_full (Val := Elt F) arg8.view f8 inb_S8x8192_S8x8192_0_0 k0_pay440 []
  generalize hg7 : arg7.view.writes (Elt F) f7 _ = g7
  generalize hg8 : arg8.view.writes (Elt F) f8 _ = g8
  rw [hg7] at e7
  rw [hg8] at e8
  have e3 : ∀ j : S1x8x8x128.Idx, (j 1).val < 0 → arg3.view.read (Elt F) f3 j = out3 v0 v0 (arg1.view.read (Elt F) X1) (arg2.view.read (Elt F) X2) j :=
    fun j h => absurd h (Nat.not_lt_zero _)
  have e4 : ∀ j : S1x8x8x128.Idx, (j 1).val < 0 → arg4.view.read (Elt F) f4 j = out4 v0 v0 (arg1.view.read (Elt F) X1) (arg2.view.read (Elt F) X2) j :=
    fun j h => absurd h (Nat.not_lt_zero _)
  have e7' : arg7.view.read (Elt F) g7 = (cols v0 v0 (arg1.view.read (Elt F) X1) (arg2.view.read (Elt F) X2) 0).1 := e7
  have e8' : arg8.view.read (Elt F) g8 = (cols v0 v0 (arg1.view.read (Elt F) X1) (arg2.view.read (Elt F) X2) 0).2 := e8
  rw [wp_bind, wp_bind]
  iapply (Scf.wp_for Idealize.ShloMosaic.frame (wpE (defs₀ (F := F)) 𝒱 (c : Thread nD τ) bd) E k0_t1_loop.lb k0_t1_loop.ub k0_t1_loop.st k0_t1_ok _ _
    (groupInv c arg1 arg2 arg3 arg4 arg7 arg8 v0 v0 X1 X2)
    (groupInv_step 𝒱 c bd E i arg1 harg1 arg2 harg2 arg3 harg3 arg4 harg4 arg5 harg5 arg6 harg6 arg7 harg7 arg8 harg8 v0 v0 X1 X2))
  isplitl [H1 H2 H3 H4 H7 H8]
  · iexists f3; iexists f4; iexists g7; iexists g8
    isplitl [H1 H2 H7 H8]
    · isplitl [H1]; · iexact H1
      isplitl [H2]; · iexact H2
      isplitl [H7]; · iexact H7
      iexact H8
    isplitl [H3]; · iexact H3
    isplitl [H4]; · iexact H4
    isplitr []; · ipureintro; exact e7'
    isplitr []; · ipureintro; exact e8'
    isplitr []; · ipureintro; exact e3
    ipureintro; exact e4
  iintro %u ⟨%p3, %p4, %p7, %p8, ⟨H1, H2, H7, H8⟩, H3, H4, %q7, %q8, %q3, %q4⟩
  sl_exec
  sl_step
  subst hv
  iapply Hk
  isplitl [H1]
  · iexists _; isplitr; · ipureintro; rfl
    iexact H1
  isplitl [H2]
  · iexists _; isplitr; · ipureintro; rfl
    iexact H2
  isplitl [H3]
  · iexists _; isplitr; swap; · iexact H3
    ipureintro; funext j; exact q3 j (lt_of_lt_of_eq (j 1).isLt trips1.symm)
  isplitl [H4]
  · iexists _; isplitr; swap; · iexact H4
    ipureintro; funext j; exact q4 j (lt_of_lt_of_eq (j 1).isLt trips1.symm)
  isplitl [H5]
  · iexists _; isplitr; swap; · iexact H5
    ipureintro
    refine (View.read_writes_full (Val := Elt F) arg5.view f5 inb_S1x1x8192_S1x1x8192_0_0_0 _ []).trans ?_
    rw [View.readAt_full, q7]; rfl
  isplitl [H6]
  · iexists _; isplitr; swap; · iexact H6
    ipureintro
    refine (View.read_writes_full (Val := Elt F) arg6.view f6 inb_S1x1x8192_S1x1x8192_0_0_0 _ []).trans ?_
    show k0_pay449 (View.readAt (Elt F) arg7.view (Rect.unit ![0, 0] S8x8192.size inb_S8x8192_S8x8192_0_0).toLoadRect p7)
      (View.readAt (Elt F) arg8.view (Rect.unit ![0, 0] S8x8192.size inb_S8x8192_S8x8192_0_0).toLoadRect p8) = _
    rw [View.readAt_full, View.readAt_full, q7, q8]; rfl
  isplitl [H7]; · iexists _; iexact H7
  iexists _; iexact H8

/-! ## The proof data and the run -/

/-- No loop of the program needs a variant. -/
abbrev 𝒱₀ : Variants := Variants.none

variable (m : (ℓ : Loc nD τ sig) → Buf (Elt F) ℓ) (ρ : Dev nD → PrngReg)

/-- What each window's buffer holds after the body: the inputs their blocks, the outputs the kernel's four results of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out3 lanes lanes (iblk m c 0 t) (iblk m c 1 t)
    | ⟨3, _⟩ => out4 lanes lanes (iblk m c 0 t) (iblk m c 1 t)
    | ⟨4, _⟩ => out5 lanes lanes (iblk m c 0 t) (iblk m c 1 t)
    | ⟨5, _⟩ => out6 lanes lanes (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = out3 lanes lanes (iblk m c 0 t) (iblk m c 1 t) := by dsimp only [dats]
theorem after_3 (c : Dev nD) (t : Fin cfg0.N) : (dats m 0 c).after 3 t = out4 lanes lanes (iblk m c 0 t) (iblk m c 1 t) := by dsimp only [dats]
theorem after_4 (c : Dev nD) (t : Fin cfg0.N) : (dats m 0 c).after 4 t = out5 lanes lanes (iblk m c 0 t) (iblk m c 1 t) := by dsimp only [dats]
theorem after_5 (c : Dev nD) (t : Fin cfg0.N) : (dats m 0 c).after 5 t = out6 lanes lanes (iblk m c 0 t) (iblk m c 1 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- The body meets the pipeline's obligation at every point. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before_0, before_1]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after_0, after_1, after_2, after_3, after_4, after_5]
  unfold Pipeline.ΦA
  rw [scopedRest0_eq]
  iintro ⟨⟨⟨⟨%s0, HS0⟩, ⟨%s1, HS1⟩⟩, HP⟩, Ho, ⟨%d0, H0⟩, ⟨%d1, H1⟩, ⟨%d2, H2⟩, ⟨%d3, H3⟩, ⟨%d4, H4⟩, ⟨%d5, H5⟩⟩
  iapply (kernel_run 𝒱₀ c none Set.univ (grid0.coords t) _ _ _ _ _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [HS0]; · iexists s0; rw [View.set_whole]; iexact HS0
  isplitl [HS1]; · iexists s1; rw [View.set_whole]; iexact HS1
  iintro ⟨H0, H1, H2, H3, H4, H5, ⟨%r0, HS0⟩, ⟨%r1, HS1⟩⟩
  isplitl [HS0 HS1 HP]
  · isplitl [HS0 HS1]
    · isplitl [HS0]
      · iexists r0; rw [View.set_whole]; iexact HS0
      · iexists r1; rw [View.set_whole]; iexact HS1
    · iexact HP
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
/-- The program's run from any memory with zero counters: every array of the pipeline ends at what the data say, the
    other buffers at what the host operations after the call make of them, and every counter ends at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The arguments end unchanged and every counter at zero. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main m ρ)

end Cert.KernelIdeal.Body
end
-- ==== Proof.Transfer.lean ====
module

public import proofs.«01_k».proof.Defs
public import proofs.«01_k».proof.Proof.Gen.Kernel
public import proofs.«01_k».proof.Proof.Gen.KernelIdeal
public import proofs.«01_k».proof.Proof.Body

/-!
The kernel and its idealization are the same program text, since no operation is rewritten: their bodies, body tables
and `@main` are equal. So what `Body` proves at any float semantics holds for the kernel on machine floats too.
-/

@[expose] public section

set_option maxRecDepth 65536
set_option maxHeartbeats 4000000

noncomputable section

namespace Cert.Proof.Transfer

open Idealize.ShloMosaic Idealize.ShloMosaic.TcCoe Idealize.SL.Sem

variable (F : FTy → Type) [FloatOps F]

/-- The two kernels' body tables agree. -/
theorem defs₀_eq : Cert.Kernel.defs₀ (F := F) = Cert.KernelIdeal.defs₀ (F := F) := by
  unfold Cert.Kernel.defs₀ Cert.KernelIdeal.defs₀
  refine congrArg (Defs.onTc (Λ := Cert.KernelIdeal.Λ₀)) ?_
  funext l a
  exact match l, a with
    | 0, (t, s) => rfl
    | ⟨_ + 1, h⟩, _ => absurd h (Nat.not_lt.2 (Nat.le_add_left _ _))

/-- So do the tables with the pipelines' labels added. -/
theorem defs_eq : Cert.Kernel.defs (F := F) = Cert.KernelIdeal.defs (F := F) :=
  congrArg (Pipeline.defs (Cert.KernelIdeal.pcfgs (F := F))) (defs₀_eq F)

/-- And the two programs. -/
theorem main_eq : Cert.Kernel.main (F := F) = Cert.KernelIdeal.main (F := F) := rfl

/-- The kernel's arguments end unchanged and every counter at zero, at any float semantics. -/
theorem frame_any (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  have h := Cert.KernelIdeal.Body.frame_any (F := F) m ρ
  rw [← defs_eq F] at h
  exact h

end Cert.Proof.Transfer
end
-- ==== Proof.RefRun.lean ====
module

public import proofs.«01_k».proof.Defs
public import proofs.«01_k».proof.Proof.Gen.ReferenceIdeal
public import Idealize.ShloMosaic.Lib.StableHlo.Run
public import Idealize.ShloMosaic.Lib.Quiescent

/-!
The run of the reference: a straight line of host operations. Its four results, as functions of its two arguments:
the array of squared distances `sq`, that array's minima along either point axis, and the positions of the minima.
-/

@[expose] public section

set_option maxRecDepth 65536

noncomputable section

namespace Cert.ReferenceIdeal.Run

open Cert.ReferenceIdeal Cert.ReferenceIdeal.Gen
open Idealize.ShloMosaic Idealize.ShloMosaic.TcCoe Idealize.SL.Sem
open Idealize.ShloMosaic.StableHlo

variable {F : FTy → Type} [FloatOps F]

/-- `@main`'s operations, the two calls' bodies in their places. -/
abbrev ops : List (HloOp τ sig (Elt F)) :=
  [ unary main_arg0 main_v0 (broadcastInDim S8x8192x1x3 ![0, 1, 3] bcast_S8x8192x3_S8x8192x1x3_0_1_3 : (⟨S8x8192x3, .f32⟩ : BufTy).Contents (Elt F) → (⟨S8x8192x1x3, .f32⟩ : BufTy).Contents (Elt F)),
    unary main_arg1 main_v1 (broadcastInDim S8x1x8192x3 ![0, 2, 3] bcast_S8x8192x3_S8x1x8192x3_0_2_3 : (⟨S8x8192x3, .f32⟩ : BufTy).Contents (Elt F) → (⟨S8x1x8192x3, .f32⟩ : BufTy).Contents (Elt F)),
    unary main_v0 main_v2 (broadcastInDim S8x8192x8192x3 ![0, 1, 2, 3] bcast_S8x8192x1x3_S8x8192x8192x3_0_1_2_3 : (⟨S8x8192x1x3, .f32⟩ : BufTy).Contents (Elt F) → (⟨S8x8192x8192x3, .f32⟩ : BufTy).Contents (Elt F)),
    unary main_v1 main_v3 (broadcastInDim S8x8192x8192x3 ![0, 1, 2, 3] bcast_S8x1x8192x3_S8x8192x8192x3_0_1_2_3 : (⟨S8x1x8192x3, .f32⟩ : BufTy).Contents (Elt F) → (⟨S8x8192x8192x3, .f32⟩ : BufTy).Contents (Elt F)),
    binary main_v2 main_v3 main_v4 (subf : (⟨S8x8192x8192x3, .f32⟩ : BufTy).Contents (Elt F) → (⟨S8x8192x8192x3, .f32⟩ : BufTy).Contents (Elt F) → (⟨S8x8192x8192x3, .f32⟩ : BufTy).Contents (Elt F)),
    binary main_v4 main_v4 main_v5 (mulf : (⟨S8x8192x8192x3, .f32⟩ : BufTy).Contents (Elt F) → (⟨S8x8192x8192x3, .f32⟩ : BufTy).Contents (Elt F) → (⟨S8x8192x8192x3, .f32⟩ : BufTy).Contents (Elt F)),
    nullary main_cst (constant S_ .f32 0x00000000#32),
    binary main_v5 main_cst main_v6 ((fun x v => Host.reduceAdd x v reducesTo_S8x8192x8192x3_S8x8192x8192_d3 h_S_) : (⟨S8x8192x8192x3, .f32⟩ : BufTy).Contents (Elt F) → (⟨S_, .f32⟩ : BufTy).Contents (Elt F) → (⟨S8x8192x8192, .f32⟩ : BufTy).Contents (Elt F)),
    nullary main_cst_0 (constant S_ .f32 0x7F800000#32),
    binary main_v6 main_cst_0 main_v7 ((fun x v => Host.reduce FloatOps.minimumf x v reducesTo_S8x8192x8192_S8x8192_d2 h_S_) : (⟨S8x8192x8192, .f32⟩ : BufTy).Contents (Elt F) → (⟨S_, .f32⟩ : BufTy).Contents (Elt F) → (⟨S8x8192, .f32⟩ : BufTy).Contents (Elt F)),
    TRef.nullary main_call0.v0 (iotaInDim S8x8192x8192 32 2),
    TRef.nullary main_call0.cst (constant S_ .f32 0x7F800000#32),
    TRef.nullary main_call0.c (constantI S_ 32 0#32),
    TRef.quaternary (.of main_v6) main_call0.v0 main_call0.cst main_call0.c main_call0.v1_0 (fun x y u v j => (Host.argReduce reducer_argmin_f32_i32 x y u v reducesTo_S8x8192x8192_S8x8192_d2 h_S_ j).1),
    TRef.quaternary (.of main_v6) main_call0.v0 main_call0.cst main_call0.c main_call0.v1_1 (fun x y u v j => (Host.argReduce reducer_argmin_f32_i32 x y u v reducesTo_S8x8192x8192_S8x8192_d2 h_S_ j).2),
    nullary main_cst_1 (constant S_ .f32 0x7F800000#32),
    binary main_v6 main_cst_1 main_v9 ((fun x v => Host.reduce FloatOps.minimumf x v reducesTo_S8x8192x8192_S8x8192_d1 h_S_) : (⟨S8x8192x8192, .f32⟩ : BufTy).Contents (Elt F) → (⟨S_, .f32⟩ : BufTy).Contents (Elt F) → (⟨S8x8192, .f32⟩ : BufTy).Contents (Elt F)),
    TRef.nullary main_call1.v0 (iotaInDim S8x8192x8192 32 1),
    TRef.nullary main_call1.cst (constant S_ .f32 0x7F800000#32),
    TRef.nullary main_call1.c (constantI S_ 32 0#32),
    TRef.quaternary (.of main_v6) main_call1.v0 main_call1.cst main_call1.c main_call1.v1_0 (fun x y u v j => (Host.argReduce reducer_argmin_f32_i32 x y u v reducesTo_S8x8192x8192_S8x8192_d1 h_S_ j).1),
    TRef.quaternary (.of main_v6) main_call1.v0 main_call1.cst main_call1.c main_call1.v1_1 (fun x y u v j => (Host.argReduce reducer_argmin_f32_i32 x y u v reducesTo_S8x8192x8192_S8x8192_d1 h_S_ j).2) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., unary_bufs_sub .., unary_bufs_sub .., binary_bufs_sub .., binary_bufs_sub ..,
    nullary_bufs_sub .., binary_bufs_sub .., nullary_bufs_sub .., binary_bufs_sub ..,
    nullary_bufs_sub .., nullary_bufs_sub .., nullary_bufs_sub .., quaternary_bufs_sub .., quaternary_bufs_sub ..,
    nullary_bufs_sub .., binary_bufs_sub ..,
    nullary_bufs_sub .., nullary_bufs_sub .., nullary_bufs_sub .., quaternary_bufs_sub .., quaternary_bufs_sub ..⟩

variable (a b : (⟨S8x8192x3, .f32⟩ : BufTy).Contents (Elt F))

/-- The coordinate differences of every pair of points, one of each cloud. -/
def diff : (⟨S8x8192x8192x3, .f32⟩ : BufTy).Contents (Elt F) :=
  subf (broadcastInDim S8x8192x8192x3 ![0, 1, 2, 3] bcast_S8x8192x1x3_S8x8192x8192x3_0_1_2_3
      (broadcastInDim S8x8192x1x3 ![0, 1, 3] bcast_S8x8192x3_S8x8192x1x3_0_1_3 a))
    (broadcastInDim S8x8192x8192x3 ![0, 1, 2, 3] bcast_S8x1x8192x3_S8x8192x8192x3_0_1_2_3
      (broadcastInDim S8x1x8192x3 ![0, 2, 3] bcast_S8x8192x3_S8x1x8192x3_0_2_3 b))

/-- The squared distances: the squares of the differences, summed over the coordinates. -/
def sq : (⟨S8x8192x8192, .f32⟩ : BufTy).Contents (Elt F) :=
  Host.reduceAdd (mulf (diff a b) (diff a b)) (constant S_ .f32 0x00000000#32) reducesTo_S8x8192x8192x3_S8x8192x8192_d3 h_S_

/-- Each first-cloud point's least squared distance, … -/
def dist1 : (⟨S8x8192, .f32⟩ : BufTy).Contents (Elt F) :=
  Host.reduce FloatOps.minimumf (sq a b) (constant S_ .f32 0x7F800000#32) reducesTo_S8x8192x8192_S8x8192_d2 h_S_
/-- … each second-cloud point's, … -/
def dist2 : (⟨S8x8192, .f32⟩ : BufTy).Contents (Elt F) :=
  Host.reduce FloatOps.minimumf (sq a b) (constant S_ .f32 0x7F800000#32) reducesTo_S8x8192x8192_S8x8192_d1 h_S_
/-- … and where the first of each is found. -/
def idx1 : (⟨S8x8192, .i32⟩ : BufTy).Contents (Elt F) := fun j =>
  (Host.argReduce (reducer_argmin_f32_i32 (F := F)) (sq a b) (iotaInDim S8x8192x8192 32 2) (constant S_ .f32 0x7F800000#32) (constantI S_ 32 0#32)
    reducesTo_S8x8192x8192_S8x8192_d2 h_S_ j).2
def idx2 : (⟨S8x8192, .i32⟩ : BufTy).Contents (Elt F) := fun j =>
  (Host.argReduce (reducer_argmin_f32_i32 (F := F)) (sq a b) (iotaInDim S8x8192x8192 32 1) (constant S_ .f32 0x7F800000#32) (constantI S_ 32 0#32)
    reducesTo_S8x8192x8192_S8x8192_d1 h_S_ j).2

/-- The functions' definitions. -/
theorem dist1_eq : dist1 a b
    = Host.reduce FloatOps.minimumf (sq a b) (constant S_ .f32 0x7F800000#32) reducesTo_S8x8192x8192_S8x8192_d2 h_S_ := rfl
theorem dist2_eq : dist2 a b
    = Host.reduce FloatOps.minimumf (sq a b) (constant S_ .f32 0x7F800000#32) reducesTo_S8x8192x8192_S8x8192_d1 h_S_ := rfl
theorem idx1_eq : idx1 a b = fun j =>
    (Host.argReduce (reducer_argmin_f32_i32 (F := F)) (sq a b) (iotaInDim S8x8192x8192 32 2) (constant S_ .f32 0x7F800000#32) (constantI S_ 32 0#32)
      reducesTo_S8x8192x8192_S8x8192_d2 h_S_ j).2 := rfl
theorem idx2_eq : idx2 a b = fun j =>
    (Host.argReduce (reducer_argmin_f32_i32 (F := F)) (sq a b) (iotaInDim S8x8192x8192 32 1) (constant S_ .f32 0x7F800000#32) (constantI S_ 32 0#32)
      reducesTo_S8x8192x8192_S8x8192_d1 h_S_ j).2 := rfl

/-- The reference's run: the four results at those functions of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v7) = dist1 (m ((c : Thread nD τ).loc main_arg0)) (m ((c : Thread nD τ).loc main_arg1))
      ∧ r.2.mem ((c : Thread nD τ).loc main_v9) = dist2 (m ((c : Thread nD τ).loc main_arg0)) (m ((c : Thread nD τ).loc main_arg1))
      ∧ r.2.mem ((c : Thread nD τ).loc main_v8) = idx1 (m ((c : Thread nD τ).loc main_arg0)) (m ((c : Thread nD τ).loc main_arg1))
      ∧ r.2.mem ((c : Thread nD τ).loc main_v10) = idx2 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c main_v7).trans (by after_results; rfl), (h c main_v9).trans (by after_results; rfl),
      (h c main_v8).trans (by after_results; rfl), (h c main_v10).trans (by after_results; rfl),
      (h c main_arg0).trans (by after_results), (h c main_arg1).trans (by after_results)⟩)
    (run_seq scopedRefs_eq scopedSems_eq defs main (fun _ => ops) main_eq (fun _ => ops_sub) m ρ)

end Cert.ReferenceIdeal.Run
end
-- ==== Proof.ArgMin.lean ====
module

public import Idealize.ShloMosaic.Lib.Pipeline.Value
public import Idealize.ShloMosaic.PureOps.Reduce
public import Idealize.ShloMosaic.PureOps.Ideal.Laws

/-!
The least value of a sequence of extended reals and the first position it is found at: what it means to have found
both, that both are determined, how a search extends by one more element, how two adjoining searches are joined, and
how a search split into interleaved classes is put together again.
-/

@[expose] public section

namespace Cert.ArgMin

open Idealize.ShloMosaic

/-- `v` is the least value of `f` on `0, …, N - 1`, and `c` the first position there with that value. -/
structure IsFirst (f : ℕ → EReal) (N : ℕ) (v : EReal) (c : ℕ) : Prop where
  lt : c < N
  val : f c = v
  le : ∀ i, i < N → v ≤ f i
  first : ∀ i, i < c → v < f i

/-- The least value and its first position are determined by the sequence. -/
theorem IsFirst.unique {f : ℕ → EReal} {N : ℕ} {v v' : EReal} {c c' : ℕ} (h : IsFirst f N v c) (h' : IsFirst f N v' c') :
    v = v' ∧ c = c' := by
  have e : v = v' := le_antisymm (h'.val ▸ h.le c' h'.lt) (h.val ▸ h'.le c h.lt)
  subst e
  refine ⟨rfl, ?_⟩
  rcases lt_trichotomy c c' with hl | hl | hl
  · exact absurd (h'.first c hl) (by rw [h.val]; exact lt_irrefl _)
  · exact hl
  · exact absurd (h.first c' hl) (by rw [h'.val]; exact lt_irrefl _)

/-- Sequences that agree on the range searched have the same result. -/
theorem IsFirst.congr {f g : ℕ → EReal} {N : ℕ} {v : EReal} {c : ℕ} (h : IsFirst f N v c) (e : ∀ i, i < N → f i = g i) :
    IsFirst g N v c where
  lt := h.lt
  val := (e c h.lt).symm.trans h.val
  le := fun i hi => e i hi ▸ h.le i hi
  first := fun i hi => e i (hi.trans h.lt) ▸ h.first i hi

/-- A search over the `n` positions from `s` on that started from the value `⊤` at position 0: either it still
    holds what it started from, or it holds a value with the first position it is found at; no value of the range
    is smaller. -/
def IsRun (f : ℕ → EReal) (s n : ℕ) (v : EReal) (c : ℕ) : Prop :=
  (∀ i, s ≤ i → i < s + n → v ≤ f i) ∧
    ((v = ⊤ ∧ c = 0) ∨ (s ≤ c ∧ c < s + n ∧ f c = v ∧ ∀ i, s ≤ i → i < c → v < f i))

/-- A search over no position. -/
theorem IsRun.empty (f : ℕ → EReal) (s : ℕ) : IsRun f s 0 ⊤ 0 :=
  ⟨fun i h h' => absurd h' (by omega), Or.inl ⟨rfl, rfl⟩⟩

/-- A search over one position. -/
theorem IsRun.single (f : ℕ → EReal) (s : ℕ) : IsRun f s 1 (f s) s :=
  ⟨fun i h h' => by obtain rfl : i = s := by omega
                    exact le_rfl,
    Or.inr ⟨le_rfl, by omega, rfl, fun i h h' => absurd h' (by omega)⟩⟩

/-- Two adjoining searches joined: the second one's result is taken where it is strictly smaller. -/
theorem IsRun.join {f : ℕ → EReal} {s n k : ℕ} {v v' : EReal} {c c' : ℕ} (h : IsRun f s n v c) (h' : IsRun f (s + n) k v' c') :
    IsRun f s (n + k) (min v v') (if v' < v then c' else c) := by
  refine ⟨fun i hi hi' => ?_, ?_⟩
  · by_cases hlt : i < s + n
    · exact (min_le_left _ _).trans (h.1 i hi hlt)
    · exact (min_le_right _ _).trans (h'.1 i (by omega) (by omega))
  · by_cases hlt : v' < v
    · rw [if_pos hlt, min_eq_right hlt.le]
      rcases h'.2 with ⟨e, _⟩ | ⟨h1, h2, h3, h4⟩
      · exact absurd hlt (by rw [e]; exact not_top_lt)
      · refine Or.inr ⟨by omega, by omega, h3, fun i hi hi' => ?_⟩
        by_cases hn : i < s + n
        · exact hlt.trans_le (h.1 i hi hn)
        · exact h4 i (by omega) hi'
    · rw [if_neg hlt, min_eq_left (not_lt.mp hlt)]
      rcases h.2 with e | ⟨h1, h2, h3, h4⟩
      · exact Or.inl e
      · exact Or.inr ⟨h1, by omega, h3, h4⟩

/-- A search extended by the next position. -/
theorem IsRun.snoc {f : ℕ → EReal} {s n : ℕ} {v : EReal} {c : ℕ} (h : IsRun f s n v c) :
    IsRun f s (n + 1) (min v (f (s + n))) (if f (s + n) < v then s + n else c) :=
  h.join (IsRun.single f (s + n))

/-- A search over a whole range finds the least value and its first position. -/
theorem IsRun.isFirst {f : ℕ → EReal} {N : ℕ} {v : EReal} {c : ℕ} (h : IsRun f 0 N v c) (hN : 0 < N) : IsFirst f N v c := by
  rcases h.2 with ⟨e, rfl⟩ | ⟨_, h2, h3, h4⟩
  · refine ⟨hN, ?_, fun i hi => h.1 i (Nat.zero_le _) (by omega), fun i hi => absurd hi (by omega)⟩
    rw [e]
    exact top_le_iff.mp (e ▸ h.1 0 (Nat.zero_le _) (by omega))
  · exact ⟨by omega, h3, fun i hi => h.1 i (Nat.zero_le _) (by omega), fun i hi => h4 i (Nat.zero_le _) hi⟩

/-- A range split into classes, each walked upwards: from every class's least value and its first position in the
    class, the least of those values, and the least of the positions of the classes that reach it. -/
theorem IsFirst.ofClasses {ι : Type} (f : ℕ → EReal) (N P : ℕ) (e : ι → ℕ → ℕ) (val : ι → EReal) (pos : ι → ℕ) (v : EReal) (c : ℕ)
    (hcov : ∀ i, i < N → ∃ l p, p < P ∧ e l p = i) (hlt : ∀ l p, p < P → e l p < N)
    (hmono : ∀ l p p', p ≤ p' → e l p ≤ e l p') (hcls : ∀ l, IsFirst (fun p => f (e l p)) P (val l) (pos l))
    (hle : ∀ l, v ≤ val l) (hc : ∃ l, val l = v ∧ c = e l (pos l)) (hmin : ∀ l, val l = v → c ≤ e l (pos l)) :
    IsFirst f N v c := by
  obtain ⟨l₀, hv₀, rfl⟩ := hc
  refine ⟨hlt _ _ (hcls l₀).lt, (hcls l₀).val.trans hv₀, fun i hi => ?_, fun i hi => ?_⟩
  · obtain ⟨l, p, hp, rfl⟩ := hcov i hi
    exact (hle l).trans ((hcls l).le p hp)
  · obtain ⟨l, p, hp, rfl⟩ := hcov i (hi.trans (hlt _ _ (hcls l₀).lt))
    have h1 : val l ≤ f (e l p) := (hcls l).le p hp
    refine lt_of_le_of_ne ((hle l).trans h1) fun he => ?_
    have hv : val l = v := le_antisymm (he ▸ h1) (hle l)
    have hpos : pos l ≤ p := by
      by_contra hgt
      exact absurd ((hcls l).first p (not_le.mp hgt)) (by rw [hv, ← he]; exact lt_irrefl _)
    exact absurd hi (not_lt.mpr ((hmin l hv).trans (hmono l _ _ hpos)))

/-! ## Minima of finite families -/

/-- The signed minimum of two words that are not negative is the minimum of their values. -/
theorem toNat_minsi (x c : BitVec 32) (hx : x.toNat < 2 ^ 31) (hc : c.toNat < 2 ^ 31) :
    (IntOp.minsi x c).toNat = min x.toNat c.toNat := by
  have hs : x.slt c = decide (x.toNat < c.toNat) := by
    rw [BitVec.slt, BitVec.toInt_eq_toNat_of_lt (by omega), BitVec.toInt_eq_toNat_of_lt (by omega)]
    simp
  unfold IntOp.minsi
  rw [hs]
  by_cases h : x.toNat < c.toNat
  · simp [h, Nat.min_eq_left h.le]
  · simp [h, Nat.min_eq_right (not_lt.mp h)]

/-- The signed minimum of a family of words none of which is negative is the minimum of their values. -/
theorem toNat_fold_minsi {ι : Type} (S : Finset ι) (b : BitVec 32) (g : ι → BitVec 32) (hb : b.toNat < 2 ^ 31)
    (hg : ∀ l, (g l).toNat < 2 ^ 31) :
    (S.fold IntOp.minsi b g).toNat = S.fold min b.toNat fun l => (g l).toNat := by
  induction S using Finset.cons_induction with
  | empty => rfl
  | cons a S ha ih =>
    have hlt : (S.fold IntOp.minsi b g).toNat < 2 ^ 31 := by
      rw [ih]
      exact lt_of_le_of_lt ((Finset.fold_min_le _).mpr (Or.inl le_rfl)) hb
    rw [Finset.fold_cons, Finset.fold_cons, toNat_minsi _ _ (hg a) hlt, ih]

/-- The least of a family of extended reals, started from `⊤`, is below every member and is one of them. -/
theorem fold_min_spec {ι : Type} (S : Finset ι) (hS : S.Nonempty) (val : ι → EReal) :
    (∀ l ∈ S, S.fold min ⊤ val ≤ val l) ∧ ∃ l ∈ S, val l = S.fold min ⊤ val := by
  have hle : ∀ l ∈ S, S.fold min ⊤ val ≤ val l := ((Finset.le_fold_min _).mp le_rfl).2
  refine ⟨hle, ?_⟩
  rcases (Finset.fold_min_le (S.fold min ⊤ val)).mp le_rfl with h | ⟨l, hl, h⟩
  · obtain ⟨l, hl⟩ := hS
    exact ⟨l, hl, le_antisymm (le_top.trans h) (hle l hl)⟩
  · exact ⟨l, hl, le_antisymm h (hle l hl)⟩

/-- Of a family of values with a word to each, the least value, and the least of the words of the members that have
    it: the other members' words are replaced by one that is larger. -/
theorem pick_spec {ι : Type} (S : Finset ι) (hS : S.Nonempty) (val : ι → EReal) (w : ι → BitVec 32) (hw : ∀ l, (w l).toNat < 2 ^ 30)
    (v : EReal) (hv : v = S.fold min ⊤ val) (c : BitVec 32)
    (hc : c = S.fold IntOp.minsi 2147483647#32 fun l => if val l = v then w l else 1073741824#32) :
    (∀ l ∈ S, v ≤ val l) ∧ (∃ l ∈ S, val l = v ∧ c.toNat = (w l).toNat) ∧ ∀ l ∈ S, val l = v → c.toNat ≤ (w l).toNat := by
  subst hv
  obtain ⟨hle, l₀, hl₀, hv₀⟩ := fold_min_spec S hS val
  have hn : c.toNat = S.fold min 2147483647 fun l => (if val l = S.fold min ⊤ val then w l else 1073741824#32).toNat := by
    rw [hc, toNat_fold_minsi _ _ _ (by decide)]
    · rfl
    · intro l
      have := hw l
      split
      · omega
      · decide
  have hmem : ∀ l ∈ S, val l = S.fold min ⊤ val → c.toNat ≤ (w l).toNat := by
    intro l hl hv
    have h := ((Finset.le_fold_min _).mp hn.le).2 l hl
    rwa [if_pos hv] at h
  refine ⟨hle, ?_, hmem⟩
  have h₀ : c.toNat < 2 ^ 30 := (hmem l₀ hl₀ hv₀).trans_lt (hw l₀)
  rcases (Finset.fold_min_le c.toNat).mp hn.ge with h | ⟨l, hl, h⟩
  · omega
  · by_cases hv : val l = S.fold min ⊤ val
    · rw [if_pos hv] at h
      exact ⟨l, hl, hv, le_antisymm (hmem l hl hv) h⟩
    · rw [if_neg hv] at h
      have : (1073741824#32 : BitVec 32).toNat = 2 ^ 30 := by decide
      omega

end Cert.ArgMin
-- ==== Proof.Distance.lean ====
module

public import Idealize.ShloMosaic.Lib.ValueIdx

/-!
The squared distance between a point of the one cloud and a point of the other, over the extended reals.
-/

@[expose] public section

noncomputable section

namespace Cert.Distance

open Idealize.ShloMosaic Idealize.ShloMosaic.ValueIdx

/-- A batch of eight clouds of 8192 points in space. -/
abbrev Clouds : Type := (⟨3, ![8, 8192, 3]⟩ : Shape).Idx → EReal

/-- Point `n` of cloud `b` (the number is read modulo 8192). -/
def pt (a : Clouds) (b : Fin 8) (n : ℕ) : Fin 3 → EReal := fun c => a (ix3 (n0 := 8) (n1 := 8192) (n2 := 3) b ⟨n % 8192, Nat.mod_lt _ (by decide)⟩ c)

/-- The squared distance of two points: the squares of the coordinate differences, summed. -/
def sqDist (p q : Fin 3 → EReal) : EReal := (p 0 - q 0) * (p 0 - q 0) + (p 1 - q 1) * (p 1 - q 1) + (p 2 - q 2) * (p 2 - q 2)

/-- The squared distance of point `n` of the first cloud of pair `b` to point `m` of the second. -/
def D (x y : Clouds) (b : Fin 8) (n m : ℕ) : EReal := sqDist (pt x b n) (pt y b m)

/-- A point of the cloud, by its own index. -/
theorem pt_val (a : Clouds) (b : Fin 8) (n : Fin 8192) : pt a b n.val = fun c => a (ix3 (n0 := 8) (n1 := 8192) (n2 := 3) b n c) := by
  funext c
  unfold pt
  congr 2
  exact Fin.ext (Nat.mod_eq_of_lt n.isLt)

end Cert.Distance
end
-- ==== Proof.StripValue.lean ====
module

public import proofs.«01_k».proof.Proof.ArgMin
public import proofs.«01_k».proof.Proof.Distance
public import proofs.«01_k».proof.Proof.Step
public import Idealize.ShloMosaic.Lib.Pointwise.Reduce
public import Idealize.ShloMosaic.Lib.Pipeline.ValueKit.Tiles
public import Idealize.ShloMosaic.Lib.WordArith

/-!
One strip over the extended reals: the distances it computes, the minimum it finds in each lane, and what its
reduction over the lanes finds for each of its eight query points — the least squared distance to the second cloud and
the first point at that distance.
-/

@[expose] public section

set_option maxRecDepth 65536

noncomputable section

namespace Cert.KernelIdeal.Body

open Cert.KernelIdeal Cert.KernelIdeal.Gen Cert.ArgMin Cert.Distance
open Idealize.ShloMosaic hiding ix0 ix1 ix2 ix3 ix4 ix5
open Idealize.ShloMosaic.ValueIdx

/-! ## Indices and comparisons -/

/-- Sublane `s`, lane `l`. -/
abbrev at8 (s : Fin 8) (l : Fin 128) : S8x128.Idx := ix2 (n0 := 8) (n1 := 128) s l
/-- Sublane `s` of a column of eight. -/
abbrev at1 (s : Fin 8) : S8x1.Idx := ix2 (n0 := 8) (n1 := 1) s 0

/-- Point `m` of the second cloud's block (the number read modulo 8192). -/
def yPt (y : Vec Ideal S1x3x8192 .f32) (m : ℕ) : Fin 3 → EReal := fun c => y (ix3 (n0 := 1) (n1 := 3) (n2 := 8192) 0 c ⟨m % 8192, Nat.mod_lt _ (by decide)⟩)
/-- Point `r` of sublane group `s` of the first cloud's block (the number read modulo 1024). -/
def xPt (x : Vec Ideal S1x1024x8x3 .f32) (s : Fin 8) (r : ℕ) : Fin 3 → EReal := fun c => x (ix4 (n0 := 1) (n1 := 1024) (n2 := 8) (n3 := 3) 0 ⟨r % 1024, Nat.mod_lt _ (by decide)⟩ s c)
/-- Query point `s` of a strip. -/
def qPt (q : Vec Ideal S1x1x8x3 .f32) (s : Fin 8) : Fin 3 → EReal := fun c => q (ix4 (n0 := 1) (n1 := 1) (n2 := 8) (n3 := 3) 0 0 s c)

theorem select_olt {α : Type} (a b : EReal) (x y : α) : Scalar.select (Ideal.cmp .olt a b) x y = if a < b then x else y := by
  by_cases h : a < b <;> simp [Ideal.cmp, Scalar.select, h]
theorem select_oeq {α : Type} (a b : EReal) (x y : α) : Scalar.select (Ideal.cmp .oeq a b) x y = if a = b then x else y := by
  by_cases h : a = b <;> simp [Ideal.cmp, Scalar.select, h]
theorem select_eq {α : Type} (a b : BitVec 32) (x y : α) : Scalar.select (IntOp.cmpi .eq a b) x y = if a = b then x else y := by
  by_cases h : a = b
  · simp [IntOp.cmpi, Scalar.select, h]
  · have h' : (a == b) = false := beq_eq_false_iff_ne.mpr h
    simp [IntOp.cmpi, Scalar.select, h, h']

/-- The infinity every search starts from is the top extended real. -/
theorem top_eq : Ideal.ofBits .f32 0x7F800000#32 = ⊤ := by simp [Ideal.ofBits, Ideal.ieee]

/-! ## The distances -/

/-- A strip's query columns. -/
theorem pay5_apply (q : Vec Ideal S1x1x8x3 .f32) (s : Fin 8) (c : Fin 3) :
    k0_pay5 q (ix2 (n0 := 8) (n1 := 3) s c) = qPt q s c :=
  shapeCast_apply _ _ _ _ (by rw [Shape.rowMajor_val_two, Shape.rowMajor_val_four]; show ((0 * 1 + 0) * 8 + s.val) * 3 + c.val = s.val * 3 + c.val; omega)

theorem pay6_apply (q : Vec Ideal S1x1x8x3 .f32) (s : Fin 8) : k0_pay6 q (at1 s) = qPt q s 0 :=
  (extractStridedSlice_apply ![0, 0] (k0_pay5 q) slices_S8x3_o0_0_S8x1 (at1 s) (ix2 (n0 := 8) (n1 := 3) s 0)
    (fun a => match a with | ⟨0, _⟩ => by show s.val = 0 + s.val; omega | ⟨1, _⟩ => rfl)).trans (pay5_apply q s 0)
theorem pay7_apply (q : Vec Ideal S1x1x8x3 .f32) (s : Fin 8) : k0_pay7 q (at1 s) = qPt q s 1 :=
  (extractStridedSlice_apply ![0, 1] (k0_pay5 q) slices_S8x3_o0_1_S8x1 (at1 s) (ix2 (n0 := 8) (n1 := 3) s 1)
    (fun a => match a with | ⟨0, _⟩ => by show s.val = 0 + s.val; omega | ⟨1, _⟩ => rfl)).trans (pay5_apply q s 1)
theorem pay8_apply (q : Vec Ideal S1x1x8x3 .f32) (s : Fin 8) : k0_pay8 q (at1 s) = qPt q s 2 :=
  (extractStridedSlice_apply ![0, 2] (k0_pay5 q) slices_S8x3_o0_2_S8x1 (at1 s) (ix2 (n0 := 8) (n1 := 3) s 2)
    (fun a => match a with | ⟨0, _⟩ => by show s.val = 0 + s.val; omega | ⟨1, _⟩ => rfl)).trans (pay5_apply q s 2)

/-- A block of one coordinate of the second cloud, viewed as one row. -/
theorem blockY_apply (y : Vec Ideal S1x3x8192 .f32) (c j : ℕ) (hc : c < 3) (hj : j < 64) (l : Fin 128) :
    k0_pay17 (blockY y c j hc hj) (ix2 (n0 := 1) (n1 := 128) 0 l) = yPt y (128 * j + l.val) ⟨c, hc⟩ := by
  have hl := l.isLt
  show shapeCast S1x128 (shapeCast S128 (blockY y c j hc hj) shapeCasts_S1x1x128_S128) shapeCasts_S128_S1x128 _ = _
  refine (shapeCast_apply _ shapeCasts_S128_S1x128 (ix2 (n0 := 1) (n1 := 128) 0 l) (ix1 (n := 128) l) (by rw [Shape.rowMajor_val_two, Shape.rowMajor_val_one]; show l.val = 0 * 128 + l.val; omega)).trans ?_
  refine (shapeCast_apply _ _ _ (ix3 (n0 := 1) (n1 := 1) (n2 := 128) 0 0 l)
    (by rw [Shape.rowMajor_val_three, Shape.rowMajor_val_one]; show (0 * 1 + 0) * 128 + l.val = l.val; omega)).trans ?_
  refine View.ld_unit_apply_of _ _ _ _ _ _ fun a => ?_
  match a with
  | ⟨0, _⟩ => rfl
  | ⟨1, _⟩ => rfl
  | ⟨2, _⟩ => show (128 * j + l.val) % 8192 = 128 * j + l.val; exact Nat.mod_eq_of_lt (by omega)

/-- A column spread over the lanes. -/
theorem spread_col {α : Type} (v : S8x1.Idx → α) (s : Fin 8) (l : Fin 128) : broadcastTo S8x128 v broadcasts_S8x1_S8x128 (at8 s l) = v (at1 s) :=
  broadcastTo_apply _ _ _ _ fun a => match a with | ⟨0, _⟩ => rfl | ⟨1, _⟩ => rfl
/-- A row spread over the sublanes. -/
theorem spread_row {α : Type} (v : S1x128.Idx → α) (s : Fin 8) (l : Fin 128) :
    broadcastTo S8x128 v broadcasts_S1x128_S8x128 (at8 s l) = v (ix2 (n0 := 1) (n1 := 128) 0 l) :=
  broadcastTo_apply _ _ _ _ fun a => match a with | ⟨0, _⟩ => rfl | ⟨1, _⟩ => rfl

/-- The array of distances holds the squared distances of the strip's query points to the block's points. -/
theorem dist_apply (q : Vec Ideal S1x1x8x3 .f32) (y : Vec Ideal S1x3x8192 .f32) (j : ℕ) (hj : j < 64) (s : Fin 8) (l : Fin 128) :
    dist q y j hj (at8 s l) = sqDist (qPt q s) (yPt y (128 * j + l.val)) := by
  have h0 := (spread_row _ s l).trans (blockY_apply y 0 j (by decide) hj l)
  have h1 := (spread_row _ s l).trans (blockY_apply y 1 j (by decide) hj l)
  have h2 := (spread_row _ s l).trans (blockY_apply y 2 j (by decide) hj l)
  have g0 := (spread_col _ s l).trans (pay6_apply q s)
  have g1 := (spread_col _ s l).trans (pay7_apply q s)
  have g2 := (spread_col _ s l).trans (pay8_apply q s)
  have e0 := congrArg₂ (fun u v : EReal => (u - v) * (u - v)) g0 h0
  have e1 := congrArg₂ (fun u v : EReal => (u - v) * (u - v)) g1 h1
  have e2 := congrArg₂ (fun u v : EReal => (u - v) * (u - v)) g2 h2
  exact congrArg₂ (· + ·) (congrArg₂ (· + ·) e0 e1) e2

/-! ## The minimum per lane -/

/-- A running minimum over consecutive blocks is a search over them, in each lane. -/
theorem runMin_spec (q : Vec Ideal S1x1x8x3 .f32) (y : Vec Ideal S1x3x8192 .f32) (s₀ : ℕ) (s : Fin 8) (l : Fin 128) :
    ∀ (n : ℕ) (h : s₀ + n ≤ 64), IsRun (fun j => sqDist (qPt q s) (yPt y (128 * j + l.val))) s₀ n
      ((runMin q y s₀ n h).1 (at8 s l)) ((runMin q y s₀ n h).2 (at8 s l)).toNat
  | 0, _ => by
    have h := IsRun.empty (fun j => sqDist (qPt q s) (yPt y (128 * j + l.val))) s₀
    rw [← top_eq] at h
    exact h
  | n + 1, h => by
    have ih := (runMin_spec q y s₀ s l n (by omega)).snoc
    have e1 : (runMin q y s₀ (n + 1) h).1 (at8 s l)
        = min ((runMin q y s₀ n (by omega)).1 (at8 s l)) (sqDist (qPt q s) (yPt y (128 * (s₀ + n) + l.val))) := by
      rw [← dist_apply q y (s₀ + n) (by omega) s l]; rfl
    have e2 : ((runMin q y s₀ (n + 1) h).2 (at8 s l)).toNat
        = if sqDist (qPt q s) (yPt y (128 * (s₀ + n) + l.val)) < (runMin q y s₀ n (by omega)).1 (at8 s l) then s₀ + n
          else ((runMin q y s₀ n (by omega)).2 (at8 s l)).toNat := by
      rw [← dist_apply q y (s₀ + n) (by omega) s l]
      show (Scalar.select (Ideal.cmp .olt _ _) (BitVec.ofNat 32 (s₀ + n)) _).toNat = _
      rw [select_olt, apply_ite BitVec.toNat, BitVec.toNat_ofNat, Nat.mod_eq_of_lt (by omega)]
    rw [e1, e2]
    exact ih

/-- The better of two adjoining searches is the search over both ranges. -/
theorem better_spec (a b : FVec Ideal S8x128 .f32 × IVec S8x128 32) (f : ℕ → EReal) (s₀ n k : ℕ) (i : S8x128.Idx)
    (ha : IsRun f s₀ n (a.1 i) (a.2 i).toNat) (hb : IsRun f (s₀ + n) k (b.1 i) (b.2 i).toNat) :
    IsRun f s₀ (n + k) ((better a b).1 i) ((better a b).2 i).toNat := by
  have h := ha.join hb
  have e : ((better a b).2 i).toNat = if b.1 i < a.1 i then (b.2 i).toNat else (a.2 i).toNat := by
    show (Scalar.select (Ideal.cmp .olt (b.1 i) (a.1 i)) (b.2 i) (a.2 i)).toNat = _
    rw [select_olt, apply_ite BitVec.toNat]
  rw [e]
  exact h

/-- A strip's combined minimum per lane is a search over all 64 blocks. -/
theorem rowBest_spec (q : Vec Ideal S1x1x8x3 .f32) (y : Vec Ideal S1x3x8192 .f32) (s : Fin 8) (l : Fin 128) :
    IsFirst (fun j => sqDist (qPt q s) (yPt y (128 * j + l.val))) 64 ((rowBest q y).1 (at8 s l)) ((rowBest q y).2 (at8 s l)).toNat := by
  have h := fun s₀ hs => runMin_spec q y s₀ s l 16 hs
  exact IsRun.isFirst (better_spec _ _ _ 0 48 16 _
    (better_spec _ _ _ 0 32 16 _ (better_spec _ _ _ 0 16 16 _ (h 0 (by decide)) (h 16 (by decide))) (h 32 (by decide))) (h 48 (by decide))) (by decide)

/-! ## The reduction over the lanes -/

/-- The least of sublane `s`'s lanes. -/
def rowMinOf (a : FVec Ideal S8x128 .f32) (s : Fin 8) : EReal := (Finset.univ : Finset (Fin 128)).fold min ⊤ fun k => a (at8 s k)
/-- The least of the columns `128 · block + lane` over the lanes of sublane `s` that hold the least value. -/
def rowArgOf (a : FVec Ideal S8x128 .f32) (b : IVec S8x128 32) (s : Fin 8) : BitVec 32 :=
  (Finset.univ : Finset (Fin 128)).fold IntOp.minsi 2147483647#32 fun k =>
    if a (at8 s k) = rowMinOf a s then b (at8 s k) * 128#32 + BitVec.ofNat 32 k.val else 1073741824#32

/-- A column of eight read as such. -/
theorem col_apply {α : Type} (v : S8.Idx → α) (s : Fin 8) : shapeCast S8x1 v shapeCasts_S8_S8x1 (at1 s) = v (ix1 (n := 8) s) :=
  shapeCast_apply _ _ _ _ (by rw [Shape.rowMajor_val_two, Shape.rowMajor_val_one]; show s.val = s.val * 1 + 0; omega)

theorem pay1_apply (a : FVec Ideal S8x128 .f32) (s : Fin 8) : k0_pay1 (F := Ideal) a (at1 s) = rowMinOf a s := by
  refine (col_apply _ s).trans ((multiReduction_minimumf_eq_fold _ _ _ _ _ _).trans ?_)
  rw [Shape.Reduces.fold_fiber_r2_a1, show FloatOps.ofBits (F := Ideal) .f32 0x7F800000#32 = ⊤ from top_eq]
  rfl

/-- The word each lane puts up for the reduction. -/
def cand (a : FVec Ideal S8x128 .f32) (b : IVec S8x128 32) (v1 : IVec S8x128 32) : IVec S8x128 32 :=
  select (cmpf .oeq a (broadcastTo S8x128 (k0_pay1 (F := Ideal) a) broadcasts_S8x1_S8x128)) (addi (muli b (broadcast S8x128 128#32)) v1)
    (broadcast S8x128 1073741824#32)

/-- The lane numbers. -/
abbrev laneNo : IVec S8x128 32 := iota .tc S8x128 32 [1] iota_S8x128_d1_w32

theorem laneNo_apply (s : Fin 8) (l : Fin 128) : laneNo (at8 s l) = BitVec.ofNat 32 l.val := iota_single_apply _ _ _ _ _ _

theorem cand_apply (a : FVec Ideal S8x128 .f32) (b : IVec S8x128 32) (s : Fin 8) (k : Fin 128) :
    cand a b laneNo (at8 s k) = if a (at8 s k) = rowMinOf a s then b (at8 s k) * 128#32 + BitVec.ofNat 32 k.val else 1073741824#32 := by
  show Scalar.select (Ideal.cmp .oeq (a (at8 s k)) (broadcastTo S8x128 (k0_pay1 (F := Ideal) a) broadcasts_S8x1_S8x128 (at8 s k)))
    (b (at8 s k) * 128#32 + laneNo (at8 s k)) 1073741824#32 = _
  rw [spread_col, pay1_apply, laneNo_apply, select_oeq]

theorem arg_apply (a : FVec Ideal S8x128 .f32) (b : IVec S8x128 32) (s : Fin 8) :
    shapeCast S8x1 (multiReductionI .minsi [1] S8 (cand a b laneNo) 2147483647#32 reduces_S8x128_S8 rfl) shapeCasts_S8_S8x1 (at1 s) = rowArgOf a b s := by
  refine (col_apply _ s).trans ((multiReductionI_eq_fold _ _ _ _ _ _).trans ?_)
  refine (Shape.Reduces.fold_fiber_r2_a1 _ _ IntOp.minsi _ _).trans ?_
  unfold rowArgOf
  exact Finset.fold_congr fun k _ => cand_apply a b s k

/-- Writing a strip's minima into one lane of the register they are collected in. -/
theorem collect_apply {α : Type} (c : IVec S8x128 1) (v : S8x1.Idx → α) (r : S8x128.Idx → α) (s : Fin 8) (l : Fin 128) :
    select c (broadcastTo S8x128 (shapeCast S8x1 v shapeCasts_S8x1_S8x1) broadcasts_S8x1_S8x128) r (at8 s l) = Scalar.select (c (at8 s l)) (v (at1 s)) (r (at8 s l)) := by
  show Scalar.select _ _ _ = _
  rw [spread_col, shapeCast_self]

/-- The lane strip `k` writes the strip before it into. -/
theorem pay2_select {α : Type} (k : Fin k0_t2_loop.trips) (s : Fin 8) (l : Fin 128) (u v : α) :
    Scalar.select (k0_pay2 laneNo 0#32 1#32 k (at8 s l)) u v = if l.val + 1 = k.val then u else v := by
  have hk : k.val < 128 := lt_of_lt_of_eq k.isLt trips2
  have hl := l.isLt
  show Scalar.select (IntOp.cmpi .eq (laneNo (at8 s l)) (Scf.iv 0#32 1#32 k - 1#32)) u v = _
  rw [laneNo_apply, select_eq]
  have e : Scf.iv 0#32 1#32 k.val = BitVec.ofNat 32 k.val := by unfold Scf.iv; simp
  rw [e]
  refine if_congr ?_ rfl rfl
  constructor
  · intro h
    have h' := congrArg (fun w => (w + 1#32).toNat) h
    simp only [BitVec.sub_add_cancel, BitVec.toNat_add, BitVec.toNat_ofNat] at h'
    omega
  · intro h
    rw [← h]
    apply BitVec.eq_of_toNat_eq
    simp only [BitVec.toNat_sub, BitVec.toNat_ofNat]
    omega

theorem pay3_apply (k : Fin k0_t2_loop.trips) (a r : FVec Ideal S8x128 .f32) (s : Fin 8) (l : Fin 128) :
    k0_pay3 (F := Ideal) laneNo 0#32 1#32 k a r (at8 s l) = if l.val + 1 = k.val then rowMinOf a s else r (at8 s l) :=
  (collect_apply _ _ _ s l).trans (by rw [pay1_apply]; exact pay2_select k s l _ _)

theorem pay4_apply (k : Fin k0_t2_loop.trips) (a : FVec Ideal S8x128 .f32) (b r : IVec S8x128 32) (s : Fin 8) (l : Fin 128) :
    k0_pay4 (F := Ideal) laneNo laneNo 0#32 1#32 k a b r (at8 s l) = if l.val + 1 = k.val then rowArgOf a b s else r (at8 s l) :=
  (collect_apply _ _ _ s l).trans ((pay2_select k s l _ _).trans (by rw [← arg_apply]; rfl))

/-- The last strip's lane. -/
theorem pay444_select {α : Type} (s : Fin 8) (l : Fin 128) (u v : α) :
    Scalar.select (k0_pay444 (at8 s l)) u v = if l.val = 127 then u else v := by
  have hl := l.isLt
  show Scalar.select (IntOp.cmpi .eq (laneNo (at8 s l)) 127#32) u v = _
  rw [laneNo_apply, select_eq]
  refine if_congr ⟨fun h => ?_, fun h => by rw [h]⟩ rfl rfl
  have h' := congrArg BitVec.toNat h
  simp only [BitVec.toNat_ofNat] at h'
  omega

/-- A register of a group's results as it is stored. -/
theorem stored_apply {α : Type} (v : S8x128.Idx → α) (s : Fin 8) (l : Fin 128) :
    shapeCast S1x1x8x128 v shapeCasts_S8x128_S1x1x8x128 (ix4 (n0 := 1) (n1 := 1) (n2 := 8) (n3 := 128) 0 0 s l) = v (at8 s l) :=
  shapeCast_apply _ _ _ _ (by rw [Shape.rowMajor_val_two, Shape.rowMajor_val_four]; show s.val * 128 + l.val = ((0 * 1 + 0) * 8 + s.val) * 128 + l.val; omega)

theorem pay445_apply (a r : FVec Ideal S8x128 .f32) (s : Fin 8) (l : Fin 128) :
    k0_pay445 (F := Ideal) a r (ix4 (n0 := 1) (n1 := 1) (n2 := 8) (n3 := 128) 0 0 s l) = if l.val = 127 then rowMinOf a s else r (at8 s l) :=
  (stored_apply _ s l).trans ((collect_apply _ _ _ s l).trans ((pay444_select s l _ _).trans (by rw [← pay1_apply]; rfl)))

theorem pay446_apply (a : FVec Ideal S8x128 .f32) (b r : IVec S8x128 32) (s : Fin 8) (l : Fin 128) :
    k0_pay446 (F := Ideal) a b r (ix4 (n0 := 1) (n1 := 1) (n2 := 8) (n3 := 128) 0 0 s l) = if l.val = 127 then rowArgOf a b s else r (at8 s l) :=
  (stored_apply _ s l).trans ((collect_apply _ _ _ s l).trans ((pay444_select s l _ _).trans (by rw [← arg_apply]; rfl)))

/-- The reduction of a strip's minima finds, for each query point, the least squared distance to the second cloud and
    the first point at it. -/
theorem row_spec (q : Vec Ideal S1x1x8x3 .f32) (y : Vec Ideal S1x3x8192 .f32) (s : Fin 8) :
    IsFirst (fun m => sqDist (qPt q s) (yPt y m)) 8192 (rowMinOf (rowBest q y).1 s) (rowArgOf (rowBest q y).1 (rowBest q y).2 s).toNat := by
  have hcls := rowBest_spec q y s
  have hword : ∀ k : Fin 128, ((rowBest q y).2 (at8 s k) * 128#32 + BitVec.ofNat 32 k.val).toNat = 128 * ((rowBest q y).2 (at8 s k)).toNat + k.val := fun k => by
    have h1 := (hcls k).lt
    have h2 := k.isLt
    rw [BitVec.toNat_add, BitVec.toNat_mul, BitVec.toNat_ofNat, BitVec.toNat_ofNat]
    omega
  obtain ⟨h1, ⟨k, _, h2, h3⟩, h4⟩ := pick_spec (Finset.univ : Finset (Fin 128)) ⟨0, Finset.mem_univ _⟩ (fun k => (rowBest q y).1 (at8 s k))
    (fun k => (rowBest q y).2 (at8 s k) * 128#32 + BitVec.ofNat 32 k.val)
    (fun k => by have h1 := (hcls k).lt; have h2 := k.isLt; rw [hword]; omega)
    (rowMinOf (rowBest q y).1 s) rfl (rowArgOf (rowBest q y).1 (rowBest q y).2 s) rfl
  refine IsFirst.ofClasses _ 8192 64 (fun (k : Fin 128) p => 128 * p + k.val) (fun k => (rowBest q y).1 (at8 s k))
    (fun k => ((rowBest q y).2 (at8 s k)).toNat) _ _ (fun i hi => ?_) (fun k p hp => ?_) (fun k p p' hp => ?_) hcls
    (fun k => h1 k (Finset.mem_univ _)) ⟨k, h2, h3.trans (hword k)⟩ (fun k hk => (h4 k (Finset.mem_univ _) hk).trans_eq (hword k))
  · exact ⟨⟨i % 128, Nat.mod_lt _ (by decide)⟩, i / 128, by omega, by show 128 * (i / 128) + i % 128 = i; omega⟩
  · have := k.isLt; omega
  · omega

end Cert.KernelIdeal.Body
end
-- ==== Proof.GroupValue.lean ====
module

public import proofs.«01_k».proof.Proof.StripValue

/-!
The whole search of one pair of clouds over the extended reals: the two registers a group collects its strips' results
in hold every strip's result, and the column arrays hold, for every sublane group and every point of the second cloud,
the search over the rows seen so far; what the four outputs hold follows.
-/

@[expose] public section

set_option maxRecDepth 65536

noncomputable section

namespace Cert.KernelIdeal.Body

open Cert.KernelIdeal Cert.KernelIdeal.Gen Cert.ArgMin Cert.Distance
open Idealize.ShloMosaic hiding ix0 ix1 ix2 ix3 ix4 ix5
open Idealize.ShloMosaic.ValueIdx

variable (x : Vec Ideal S1x1024x8x3 .f32) (y : Vec Ideal S1x3x8192 .f32)

/-- Sublane `s`, column `c`. -/
abbrev atC (s : Fin 8) (c : Fin 8192) : S8x8192.Idx := ix2 (n0 := 8) (n1 := 8192) s c

/-- The query points of strip `k` of group `g` are the points numbered `128 g + k` of the eight sublane groups. -/
theorem loadQ_apply (g : Fin k0_t1_loop.trips) (k : Fin k0_t2_loop.trips) (s : Fin 8) :
    qPt (loadQ x g k) s = xPt x s (128 * g.val + k.val) := by
  have hg : g.val < 8 := lt_of_lt_of_eq g.isLt trips1
  have hk : k.val < 128 := lt_of_lt_of_eq k.isLt trips2
  funext c
  refine View.ld_unit_apply_of _ _ _ _ _ _ fun a => ?_
  refine Eq.trans ?_ (congrArg (· + _) (congrFun (k0_off1_eq g k) a).symm)
  match a with
  | ⟨0, _⟩ => rfl
  | ⟨1, _⟩ => show (128 * g.val + k.val) % 1024 = 128 * g.val + k.val + 0; omega
  | ⟨2, _⟩ => show s.val = 0 + s.val; omega
  | ⟨3, _⟩ => show c.val = 0 + c.val; omega

/-! ## The rows -/

/-- What strip `k` of group `g` finds in its lanes. -/
abbrev found (g : Fin k0_t1_loop.trips) (k : Fin k0_t2_loop.trips) : FVec Ideal S8x128 .f32 × IVec S8x128 32 := rowBest (loadQ x g k) y

/-- After `n` strips the carried minima are the last strip's, and the lanes of the strips before it are written. -/
theorem rows_inv (g : Fin k0_t1_loop.trips) (st : State Ideal) : ∀ n, n ≤ k0_t2_loop.trips →
    (∀ k : Fin k0_t2_loop.trips, k.val + 1 = n → (strips laneNo laneNo x y g st n).1.1 = (found x y g k).1
        ∧ (strips laneNo laneNo x y g st n).1.2.1 = (found x y g k).2)
      ∧ ∀ k : Fin k0_t2_loop.trips, k.val + 1 < n → ∀ (s : Fin 8) (l : Fin 128), l.val = k.val →
        (strips laneNo laneNo x y g st n).1.2.2.1 (at8 s l) = rowMinOf (found x y g k).1 s
        ∧ (strips laneNo laneNo x y g st n).1.2.2.2 (at8 s l) = rowArgOf (found x y g k).1 (found x y g k).2 s
  | 0, _ => ⟨fun _ h => absurd h (by omega), fun _ h => absurd h (by omega)⟩
  | n + 1, hn => by
    obtain ⟨h1, h2⟩ := rows_inv g st n (by omega)
    have e := strips_succ laneNo laneNo x y g st ⟨n, hn⟩
    simp only at e
    rw [e]
    generalize strips laneNo laneNo x y g st n = u at h1 h2
    refine ⟨fun k hk => ?_, fun k hk s l hl => ?_⟩
    · obtain rfl : k = ⟨n, hn⟩ := Fin.ext (by simpa using hk)
      exact ⟨rfl, rfl⟩
    · have h3 := pay3_apply ⟨n, hn⟩ u.1.1 u.1.2.2.1 s l
      have h4 := pay4_apply ⟨n, hn⟩ u.1.1 u.1.2.1 u.1.2.2.2 s l
      by_cases hl' : l.val + 1 = n
      · rw [if_pos hl'] at h3 h4
        obtain ⟨e1, e2⟩ := h1 k (by omega)
        exact ⟨h3.trans (congrArg (rowMinOf · s) e1), h4.trans (congrArg₂ (rowArgOf · · s) e1 e2)⟩
      · rw [if_neg hl'] at h3 h4
        obtain ⟨e1, e2⟩ := h2 k (by omega) s l hl
        exact ⟨h3.trans e1, h4.trans e2⟩

/-- The row results: for each point of the first cloud, the least squared distance to the second cloud and the first
    point at it. -/
theorem outRows_spec (g : Fin 8) (s : Fin 8) (l : Fin 128) :
    IsFirst (fun m => sqDist (xPt x s (128 * g.val + l.val)) (yPt y m)) 8192
      (out3 laneNo laneNo x y (ix4 (n0 := 1) (n1 := 8) (n2 := 8) (n3 := 128) 0 g s l))
      (out4 laneNo laneNo x y (ix4 (n0 := 1) (n1 := 8) (n2 := 8) (n3 := 128) 0 g s l)).toNat := by
  have hg : g.val < k0_t1_loop.trips := by rw [trips1]; exact g.isLt
  have hl : l.val < k0_t2_loop.trips := by rw [trips2]; exact l.isLt
  have hlt := l.isLt
  have key := row_spec (loadQ x ⟨g.val, hg⟩ ⟨l.val, hl⟩) y s
  rw [loadQ_apply] at key
  obtain ⟨h1, h2⟩ := rows_inv x y ⟨g.val, hg⟩ (groupInit (cols laneNo laneNo x y g.val).1 (cols laneNo laneNo x y g.val).2) k0_t2_loop.trips le_rfl
  have e3 := pay445_apply (groupAt laneNo laneNo x y ⟨g.val, hg⟩).1.1 (groupAt laneNo laneNo x y ⟨g.val, hg⟩).1.2.2.1 s l
  have e4 := pay446_apply (groupAt laneNo laneNo x y ⟨g.val, hg⟩).1.1 (groupAt laneNo laneNo x y ⟨g.val, hg⟩).1.2.1
    (groupAt laneNo laneNo x y ⟨g.val, hg⟩).1.2.2.2 s l
  unfold out3 out4
  refine Eq.mp (congrArg₂ (IsFirst _ 8192) (Eq.symm (e3.trans ?_)) (congrArg BitVec.toNat (Eq.symm (e4.trans ?_)))) key
  · by_cases h : l.val = 127
    · rw [if_pos h]
      exact congrArg (rowMinOf · s) (h1 ⟨l.val, hl⟩ (by have := trips2; show l.val + 1 = _; omega)).1
    · rw [if_neg h]
      exact (h2 ⟨l.val, hl⟩ (by have := trips2; show l.val + 1 < _; omega) s l rfl).1
  · by_cases h : l.val = 127
    · rw [if_pos h]
      have := h1 ⟨l.val, hl⟩ (by have := trips2; show l.val + 1 = _; omega)
      exact congrArg₂ (rowArgOf · · s) this.1 this.2
    · rw [if_neg h]
      exact (h2 ⟨l.val, hl⟩ (by have := trips2; show l.val + 1 < _; omega) s l rfl).2

/-! ## The columns -/

/-- The column arrays hold, for every sublane group and every point of the second cloud, the search over the first `n`
    points of the group. -/
def ColInv (n : ℕ) (cm : Vec Ideal S8x8192 .f32) (cr : Vec Ideal S8x8192 .i32) : Prop :=
  ∀ (s : Fin 8) (c : Fin 8192), IsRun (fun r => sqDist (xPt x s r) (yPt y c.val)) 0 n (cm (atC s c)) (BitVec.toNat (cr (atC s c)))

/-- The place of a column inside its block. -/
abbrev lane (c : Fin 8192) : Fin 128 := ⟨c.val % 128, Nat.mod_lt _ (by decide)⟩

/-- A column array's block, read at the column's place in it. -/
theorem ld_block {e : EltTy} (v : Vec Ideal S8x8192 e) (s : Fin 8) (c : Fin 8192) (h : c.val / 128 < 64) :
    View.ld v (rectC (c.val / 128) h) (at8 s (lane c)) = v (atC s c) :=
  View.ld_unit_apply_of _ _ _ _ _ _ fun a => match a with
    | ⟨0, _⟩ => by show s.val = 0 + s.val; omega
    | ⟨1, _⟩ => by show c.val = 128 * (c.val / 128) + c.val % 128; omega

theorem dist_block (q : Vec Ideal S1x1x8x3 .f32) (s : Fin 8) (c : Fin 8192) (h : c.val / 128 < 64) :
    dist q y (c.val / 128) h (at8 s (lane c)) = sqDist (qPt q s) (yPt y c.val) := by
  rw [dist_apply]
  have e : 128 * (c.val / 128) + (lane c).val = c.val := Nat.div_add_mod _ _
  rw [e]

/-- A strip's update of the column minima, at an entry … -/
theorem stepM_apply (q : Vec Ideal S1x1x8x3 .f32) (cm : Vec Ideal S8x8192 .f32) (s : Fin 8) (c : Fin 8192) :
    stepM q y cm (atC s c) = min (cm (atC s c)) (sqDist (qPt q s) (yPt y c.val)) := by
  refine (congrFun (shapeCast_self _ _) (at8 s (lane c))).trans ?_
  exact congrArg₂ min (ld_block cm s c _) (dist_block y q s c _)

/-- … and of the rows. -/
theorem stepR_apply (w : BitVec 32) (q : Vec Ideal S1x1x8x3 .f32) (cm : Vec Ideal S8x8192 .f32) (cr : Vec Ideal S8x8192 .i32) (s : Fin 8) (c : Fin 8192) :
    stepR w q y cm cr (atC s c) = if sqDist (qPt q s) (yPt y c.val) < cm (atC s c) then w else cr (atC s c) := by
  refine (congrFun (shapeCast_self _ _) (at8 s (lane c))).trans ?_
  show Scalar.select (Ideal.cmp .olt (dist q y (c.val / 128) _ (at8 s (lane c))) (View.ld cm (rectC (c.val / 128) _) (at8 s (lane c)))) w
    (View.ld cr (rectC (c.val / 128) _) (at8 s (lane c))) = _
  rw [select_olt, ld_block, ld_block, dist_block]

/-- The row number of a strip. -/
theorem rowWord_toNat (g : Fin k0_t1_loop.trips) (k : Fin k0_t2_loop.trips) : (rowWord g k).toNat = 128 * g.val + k.val := by
  have hg : g.val < 8 := lt_of_lt_of_eq g.isLt trips1
  have hk : k.val < 128 := lt_of_lt_of_eq k.isLt trips2
  show ((0#32 + BitVec.ofNat 32 g.val * 1#32) * 128#32 + (0#32 + BitVec.ofNat 32 k.val * 1#32)).toNat = _
  simp only [BitVec.toNat_add, BitVec.toNat_mul, BitVec.toNat_ofNat]
  omega

/-- A strip extends the search by its row. -/
theorem ColInv.step (g : Fin k0_t1_loop.trips) (k : Fin k0_t2_loop.trips) (u : State Ideal)
    (h : ColInv x y (128 * g.val + k.val) u.2.1 u.2.2) :
    ColInv x y (128 * g.val + k.val + 1) (stripNext laneNo laneNo x y g k u).2.1 (stripNext laneNo laneNo x y g k u).2.2 := by
  intro s c
  have ih := (h s c).snoc
  rw [Nat.zero_add] at ih
  have e1 := stepM_apply y (loadQ x g k) u.2.1 s c
  have e2 := stepR_apply y (rowWord g k) (loadQ x g k) u.2.1 u.2.2 s c
  rw [loadQ_apply] at e1 e2
  have e2' := congrArg BitVec.toNat e2
  rw [apply_ite BitVec.toNat, rowWord_toNat] at e2'
  exact Eq.mp (congrArg₂ (IsRun _ 0 _) e1.symm e2'.symm) ih

theorem ColInv.strips (g : Fin k0_t1_loop.trips) (u : State Ideal) (h : ColInv x y (128 * g.val) u.2.1 u.2.2) :
    ∀ n, n ≤ k0_t2_loop.trips → ColInv x y (128 * g.val + n) (strips laneNo laneNo x y g u n).2.1 (strips laneNo laneNo x y g u n).2.2
  | 0, _ => h
  | n + 1, hn => by
    have e := strips_succ laneNo laneNo x y g u ⟨n, hn⟩
    simp only at e
    rw [e]
    exact ColInv.step x y g ⟨n, hn⟩ _ (ColInv.strips g u h n (by omega))

/-- After `n` groups the column arrays hold the search over the first `128 n` rows. -/
theorem cols_inv : ∀ n, n ≤ k0_t1_loop.trips → ColInv x y (128 * n) (cols laneNo laneNo x y n).1 (cols laneNo laneNo x y n).2
  | 0, _ => fun s c => by
    have h := IsRun.empty (fun r => sqDist (xPt x s r) (yPt y c.val)) 0
    have e1 : k0_pay439 (F := Ideal) (atC s c) = ⊤ := by
      have h := congrFun (shapeCast_self (s := S8x8192) (broadcast S8x8192 (Ideal.ofBits .f32 0x7F800000#32)) shapeCasts_S8x8192_S8x8192) (atC s c)
      exact h.trans top_eq
    have e2 : BitVec.toNat (k0_pay440 (atC s c)) = 0 := by
      have h := congrFun (shapeCast_self (s := S8x8192) (broadcast S8x8192 0#32) shapeCasts_S8x8192_S8x8192) (atC s c)
      exact congrArg BitVec.toNat h
    exact Eq.mp (congrArg₂ (IsRun _ 0 0) e1.symm e2.symm) h
  | n + 1, hn => by
    have ih := cols_inv n (by omega)
    have e := cols_succ laneNo laneNo x y ⟨n, hn⟩
    simp only at e
    rw [e]
    have h := ColInv.strips x y ⟨n, hn⟩ (groupInit (cols laneNo laneNo x y n).1 (cols laneNo laneNo x y n).2) ih k0_t2_loop.trips le_rfl
    rw [show 128 * (n + 1) = 128 * n + k0_t2_loop.trips by rw [trips2]; omega]
    exact h

/-! ## The reduction over the sublane groups -/

/-- The least of column `c`'s eight entries. -/
def colMinOf (a : Vec Ideal S8x8192 .f32) (c : Fin 8192) : EReal := (Finset.univ : Finset (Fin 8)).fold min ⊤ fun k => a (atC k c)
/-- The least of the rows `1024 · sublane + row` over the sublanes that hold the least value. -/
def colArgOf (a : Vec Ideal S8x8192 .f32) (b : Vec Ideal S8x8192 .i32) (c : Fin 8192) : BitVec 32 :=
  (Finset.univ : Finset (Fin 8)).fold IntOp.minsi 2147483647#32 fun k =>
    if a (atC k c) = colMinOf a c then BitVec.ofNat 32 k.val * 1024#32 + b (atC k c) else 1073741824#32

/-- A row of the column arrays, viewed with a leading unit axis. -/
theorem lead1 {α : Type} (v : S8192.Idx → α) (c : Fin 8192) : shapeCast S1x8192 v shapeCasts_S8192_S1x8192 (ix2 (n0 := 1) (n1 := 8192) 0 c) = v (ix1 (n := 8192) c) :=
  shapeCast_apply _ _ _ _ (by rw [Shape.rowMajor_val_two, Shape.rowMajor_val_one]; show c.val = 0 * 8192 + c.val; omega)
theorem lead2 {α : Type} (v : S1x8192.Idx → α) (c : Fin 8192) :
    shapeCast S1x1x8192 v shapeCasts_S1x8192_S1x1x8192 (ix3 (n0 := 1) (n1 := 1) (n2 := 8192) 0 0 c) = v (ix2 (n0 := 1) (n1 := 8192) 0 c) :=
  shapeCast_apply _ _ _ _ (by rw [Shape.rowMajor_val_two, Shape.rowMajor_val_three]; show 0 * 8192 + c.val = (0 * 1 + 0) * 8192 + c.val; omega)
/-- That row spread over the sublanes. -/
theorem spread8 {α : Type} (v : S1x8192.Idx → α) (s : Fin 8) (c : Fin 8192) :
    broadcastTo S8x8192 v broadcasts_S1x8192_S8x8192 (atC s c) = v (ix2 (n0 := 1) (n1 := 8192) 0 c) :=
  broadcastTo_apply _ _ _ _ fun a => match a with | ⟨0, _⟩ => rfl | ⟨1, _⟩ => rfl

theorem pay447_apply (a : Vec Ideal S8x8192 .f32) (c : Fin 8192) : k0_pay447 (F := Ideal) a (ix2 (n0 := 1) (n1 := 8192) 0 c) = colMinOf a c := by
  show shapeCast S1x8192 (multiReduction (F := Ideal) .minimumf [0] S8192 a 0x7F800000#32 reduces_S8x8192_S8192 (.inl rfl) rfl) shapeCasts_S8192_S1x8192 _ = _
  rw [lead1]
  refine (multiReduction_minimumf_eq_fold _ _ _ _ _ _).trans ?_
  rw [Shape.Reduces.fold_fiber_r2_a0, show FloatOps.ofBits (F := Ideal) .f32 0x7F800000#32 = ⊤ from top_eq]
  rfl

theorem pay448_apply (a : Vec Ideal S8x8192 .f32) (c : Fin 8192) : k0_pay448 (F := Ideal) a (ix3 (n0 := 1) (n1 := 1) (n2 := 8192) 0 0 c) = colMinOf a c := by
  show shapeCast S1x1x8192 (k0_pay447 (F := Ideal) a) shapeCasts_S1x8192_S1x1x8192 _ = _
  rw [lead2, pay447_apply]

/-- The word each sublane puts up for the reduction. -/
def candC (a : Vec Ideal S8x8192 .f32) (b : Vec Ideal S8x8192 .i32) : IVec S8x8192 32 :=
  select (cmpf .oeq a (broadcastTo S8x8192 (k0_pay447 (F := Ideal) a) broadcasts_S1x8192_S8x8192))
    (addi (muli (iota .tc S8x8192 32 [0] iota_S8x8192_d0_w32) (broadcast S8x8192 1024#32)) b) (broadcast S8x8192 1073741824#32)

theorem candC_apply (a : Vec Ideal S8x8192 .f32) (b : Vec Ideal S8x8192 .i32) (k : Fin 8) (c : Fin 8192) :
    candC a b (atC k c) = if a (atC k c) = colMinOf a c then BitVec.ofNat 32 k.val * 1024#32 + b (atC k c) else 1073741824#32 := by
  show Scalar.select (Ideal.cmp .oeq (a (atC k c)) (broadcastTo S8x8192 (k0_pay447 (F := Ideal) a) broadcasts_S1x8192_S8x8192 (atC k c)))
    (iota .tc S8x8192 32 [0] iota_S8x8192_d0_w32 (atC k c) * 1024#32 + b (atC k c)) 1073741824#32 = _
  rw [spread8, pay447_apply, iota_single_apply, select_oeq]

theorem pay449_apply (a : Vec Ideal S8x8192 .f32) (b : Vec Ideal S8x8192 .i32) (c : Fin 8192) :
    k0_pay449 (F := Ideal) a b (ix3 (n0 := 1) (n1 := 1) (n2 := 8192) 0 0 c) = colArgOf a b c := by
  show shapeCast S1x1x8192 (shapeCast S1x8192 (multiReductionI .minsi [0] S8192 (candC a b) 2147483647#32 reduces_S8x8192_S8192 rfl)
    shapeCasts_S8192_S1x8192) shapeCasts_S1x8192_S1x1x8192 _ = _
  rw [lead2, lead1]
  refine (multiReductionI_eq_fold _ _ _ _ _ _).trans ?_
  refine (Shape.Reduces.fold_fiber_r2_a0 _ _ IntOp.minsi _ _).trans ?_
  unfold colArgOf
  exact Finset.fold_congr fun k _ => candC_apply a b k c

/-- Point `n` of the first cloud's block: sublane group `n / 1024`, point `n % 1024` of it. -/
def xAll (n : ℕ) : Fin 3 → EReal := xPt x ⟨n / 1024 % 8, Nat.mod_lt _ (by decide)⟩ (n % 1024)

theorem xAll_split (s : Fin 8) (r : ℕ) (hr : r < 1024) : xAll x (1024 * s.val + r) = xPt x s r := by
  have hs := s.isLt
  unfold xAll
  have e1 : (⟨(1024 * s.val + r) / 1024 % 8, Nat.mod_lt _ (by decide)⟩ : Fin 8) = s := Fin.ext (by show (1024 * s.val + r) / 1024 % 8 = s.val; omega)
  have e2 : (1024 * s.val + r) % 1024 = r := by omega
  rw [e1, e2]

/-- The column results: for each point of the second cloud, the least squared distance to the first cloud and the first
    point at it. -/
theorem outCols_spec (c : Fin 8192) :
    IsFirst (fun n => sqDist (xAll x n) (yPt y c.val)) 8192
      (out5 laneNo laneNo x y (ix3 (n0 := 1) (n1 := 1) (n2 := 8192) 0 0 c))
      (BitVec.toNat (out6 laneNo laneNo x y (ix3 (n0 := 1) (n1 := 1) (n2 := 8192) 0 0 c))) := by
  have hinv := cols_inv x y k0_t1_loop.trips le_rfl
  rw [show 128 * k0_t1_loop.trips = 1024 by rw [trips1]] at hinv
  unfold out5 out6
  rw [pay448_apply, pay449_apply]
  generalize (cols laneNo laneNo x y k0_t1_loop.trips).1 = cm at hinv
  generalize (cols laneNo laneNo x y k0_t1_loop.trips).2 = cr at hinv
  have hcls : ∀ s : Fin 8, IsFirst (fun r => sqDist (xAll x (1024 * s.val + r)) (yPt y c.val)) 1024 (cm (atC s c)) (BitVec.toNat (cr (atC s c))) := fun s =>
    ((hinv s c).isFirst (by decide)).congr fun r hr => by rw [xAll_split x s r hr]
  have hword : ∀ k : Fin 8, (BitVec.ofNat 32 k.val * 1024#32 + cr (atC k c)).toNat = 1024 * k.val + BitVec.toNat (cr (atC k c)) := fun k => by
    have h1 := (hcls k).lt
    have h2 := k.isLt
    rw [BitVec.toNat_add, BitVec.toNat_mul, BitVec.toNat_ofNat, BitVec.toNat_ofNat]
    omega
  obtain ⟨h1, ⟨k, _, h2, h3⟩, h4⟩ := pick_spec (Finset.univ : Finset (Fin 8)) ⟨0, Finset.mem_univ _⟩ (fun k => cm (atC k c))
    (fun k => BitVec.ofNat 32 k.val * 1024#32 + cr (atC k c))
    (fun k => by have h1 := (hcls k).lt; have h2 := k.isLt; rw [hword]; omega)
    (colMinOf cm c) rfl (colArgOf cm cr c) rfl
  refine IsFirst.ofClasses _ 8192 1024 (fun (k : Fin 8) p => 1024 * k.val + p) (fun k => cm (atC k c))
    (fun k => BitVec.toNat (cr (atC k c))) _ _ (fun i hi => ?_) (fun k p hp => ?_) (fun k p p' hp => ?_) hcls
    (fun k => h1 k (Finset.mem_univ _)) ⟨k, h2, h3.trans (hword k)⟩ (fun k hk => (h4 k (Finset.mem_univ _) hk).trans_eq (hword k))
  · exact ⟨⟨i / 1024, by omega⟩, i % 1024, Nat.mod_lt _ (by decide), by show 1024 * (i / 1024) + i % 1024 = i; omega⟩
  · have := k.isLt; omega
  · omega

end Cert.KernelIdeal.Body
end
-- ==== Proof.Arrays.lean ====
module

public import proofs.«01_k».proof.Proof.Body
public import proofs.«01_k».proof.Proof.Gen.KernelIdeal.Points
public import Idealize.ShloMosaic.Lib.Pipeline.Value
public import Idealize.ShloMosaic.Lib.StableHlo.Run

/-!
The arrays of the whole program, at any float semantics: what the call finds in its two input arrays (the argument
clouds, rearranged), what it leaves in its four output arrays (block `b` is what the body makes of the two blocks of
batch entry `b`), and what the host operations after the call make of them.
-/

@[expose] public section

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-! ## Where a block lies in its array -/

/-- The grid point of batch entry `b`. -/
abbrev gpt (b : Fin 8) : Fin cfg0.N := ⟨b.val, lt_of_lt_of_eq b.isLt N_0.symm⟩
/-- The batch entry of a grid point. -/
abbrev entry (t : Fin cfg0.N) : Fin 8 := ⟨t.val, lt_of_lt_of_eq t.isLt N_0⟩

theorem index_0 : ∀ (t : Fin grid0.N) (a : Fin 4), win0_0.index t a = (![t.val, 0, 0, 0] : Fin 4 → ℕ) a := by decide +kernel
theorem index_1 : ∀ (t : Fin grid0.N) (a : Fin 3), win0_1.index t a = (![t.val, 0, 0] : Fin 3 → ℕ) a := by decide +kernel
theorem index_2 : ∀ (t : Fin grid0.N) (a : Fin 4), win0_2.index t a = (![t.val, 0, 0, 0] : Fin 4 → ℕ) a := by decide +kernel
theorem index_3 : ∀ (t : Fin grid0.N) (a : Fin 4), win0_3.index t a = (![t.val, 0, 0, 0] : Fin 4 → ℕ) a := by decide +kernel
theorem index_4 : ∀ (t : Fin grid0.N) (a : Fin 3), win0_4.index t a = (![t.val, 0, 0] : Fin 3 → ℕ) a := by decide +kernel
theorem index_5 : ∀ (t : Fin grid0.N) (a : Fin 3), win0_5.index t a = (![t.val, 0, 0] : Fin 3 → ℕ) a := by decide +kernel

/-- An index of a block is an index of the array: the first coordinate is the batch entry, the others are kept. -/
theorem place4 {n1 n2 n3 : ℕ} (b : Fin 8) (j : (⟨4, ![1, n1, n2, n3]⟩ : Shape).Idx) (i : (⟨4, ![8, n1, n2, n3]⟩ : Shape).Idx)
    (h : ∀ a : Fin 4, (i a : ℕ) = (![b.val, 0, 0, 0] : Fin 4 → ℕ) a * (![1, n1, n2, n3] : Fin 4 → ℕ) a + j a) :
    i = ValueIdx.ix4 (n0 := 8) b (j 1) (j 2) (j 3) := by
  funext a
  refine Fin.ext ((h a).trans ?_)
  match a with
  | ⟨0, _⟩ =>
    have : (j 0 : ℕ) < 1 := (j 0).isLt
    show b.val * 1 + (j 0 : ℕ) = b.val; omega
  | ⟨1, _⟩ => show 0 * n1 + (j 1 : ℕ) = j 1; omega
  | ⟨2, _⟩ => show 0 * n2 + (j 2 : ℕ) = j 2; omega
  | ⟨3, _⟩ => show 0 * n3 + (j 3 : ℕ) = j 3; omega

theorem place3 {n1 n2 : ℕ} (b : Fin 8) (j : (⟨3, ![1, n1, n2]⟩ : Shape).Idx) (i : (⟨3, ![8, n1, n2]⟩ : Shape).Idx)
    (h : ∀ a : Fin 3, (i a : ℕ) = (![b.val, 0, 0] : Fin 3 → ℕ) a * (![1, n1, n2] : Fin 3 → ℕ) a + j a) :
    i = ValueIdx.ix3 (n0 := 8) b (j 1) (j 2) := by
  funext a
  refine Fin.ext ((h a).trans ?_)
  match a with
  | ⟨0, _⟩ =>
    have : (j 0 : ℕ) < 1 := (j 0).isLt
    show b.val * 1 + (j 0 : ℕ) = b.val; omega
  | ⟨1, _⟩ => show 0 * n1 + (j 1 : ℕ) = j 1; omega
  | ⟨2, _⟩ => show 0 * n2 + (j 2 : ℕ) = j 2; omega

theorem front4 {n1 n2 n3 : ℕ} (j : (⟨4, ![1, n1, n2, n3]⟩ : Shape).Idx) : j = ValueIdx.ix4 (n0 := 1) 0 (j 1) (j 2) (j 3) := by
  funext a
  match a with
  | ⟨0, _⟩ => exact Subsingleton.elim (α := Fin 1) _ _
  | ⟨1, _⟩ => rfl
  | ⟨2, _⟩ => rfl
  | ⟨3, _⟩ => rfl
theorem front3 {n1 n2 : ℕ} (j : (⟨3, ![1, n1, n2]⟩ : Shape).Idx) : j = ValueIdx.ix3 (n0 := 1) 0 (j 1) (j 2) := by
  funext a
  match a with
  | ⟨0, _⟩ => exact Subsingleton.elim (α := Fin 1) _ _
  | ⟨1, _⟩ => rfl
  | ⟨2, _⟩ => rfl

theorem emb_0 (t : Fin cfg0.N) (j : S1x1024x8x3.Idx) :
    ((cfg0.win 0).blk t).view.emb j = ValueIdx.ix4 (n0 := 8) (n1 := 1024) (n2 := 8) (n3 := 3) (entry t) (j 1) (j 2) (j 3) :=
  place4 (n1 := 1024) (n2 := 8) (n3 := 3) (entry t) j _ fun a => (Window.rect_emb_val win0_0 t j a).trans (congrArg (· * _ + _) (index_0 t a))
theorem emb_1 (t : Fin cfg0.N) (j : S1x3x8192.Idx) :
    ((cfg0.win 1).blk t).view.emb j = ValueIdx.ix3 (n0 := 8) (n1 := 3) (n2 := 8192) (entry t) (j 1) (j 2) :=
  place3 (n1 := 3) (n2 := 8192) (entry t) j _ fun a => (Window.rect_emb_val win0_1 t j a).trans (congrArg (· * _ + _) (index_1 t a))
theorem emb_2 (t : Fin cfg0.N) (j : S1x8x8x128.Idx) :
    ((cfg0.win 2).blk t).view.emb j = ValueIdx.ix4 (n0 := 8) (n1 := 8) (n2 := 8) (n3 := 128) (entry t) (j 1) (j 2) (j 3) :=
  place4 (n1 := 8) (n2 := 8) (n3 := 128) (entry t) j _ fun a => (Window.rect_emb_val win0_2 t j a).trans (congrArg (· * _ + _) (index_2 t a))
theorem emb_3 (t : Fin cfg0.N) (j : S1x8x8x128.Idx) :
    ((cfg0.win 3).blk t).view.emb j = ValueIdx.ix4 (n0 := 8) (n1 := 8) (n2 := 8) (n3 := 128) (entry t) (j 1) (j 2) (j 3) :=
  place4 (n1 := 8) (n2 := 8) (n3 := 128) (entry t) j _ fun a => (Window.rect_emb_val win0_3 t j a).trans (congrArg (· * _ + _) (index_3 t a))
theorem emb_4 (t : Fin cfg0.N) (j : S1x1x8192.Idx) :
    ((cfg0.win 4).blk t).view.emb j = ValueIdx.ix3 (n0 := 8) (n1 := 1) (n2 := 8192) (entry t) (j 1) (j 2) :=
  place3 (n1 := 1) (n2 := 8192) (entry t) j _ fun a => (Window.rect_emb_val win0_4 t j a).trans (congrArg (· * _ + _) (index_4 t a))
theorem emb_5 (t : Fin cfg0.N) (j : S1x1x8192.Idx) :
    ((cfg0.win 5).blk t).view.emb j = ValueIdx.ix3 (n0 := 8) (n1 := 1) (n2 := 8192) (entry t) (j 1) (j 2) :=
  place3 (n1 := 1) (n2 := 8192) (entry t) j _ fun a => (Window.rect_emb_val win0_5 t j a).trans (congrArg (· * _ + _) (index_5 t a))

/-! ## The input arrays -/

/-- The first input array: the first cloud, split into eight groups of 1024 points, the groups as the third axis. -/
theorem V_main_call0_v1 (c : Dev nD) : V m c main_call0_v1 = transpose S8x1024x8x3 [0, 2, 1, 3]
    (shapeCast S8x8x1024x3 (m ((c : Thread nD τ).loc main_arg0)) shapeCasts_S8x8192x3_S8x8x1024x3) transposes_S8x8x1024x3_S8x1024x8x3_0_2_1_3 := by
  show StableHlo.after (List.flatten [hostOps0]) (fun b => m (c, b)) (Proc.devRef .tc main_call0_v1) = _
  simp only [hostOps0, List.flatten_cons, List.flatten_nil, List.append_nil]
  after_results
  rfl

/-- The second input array: the second cloud, coordinates first. -/
theorem V_main_call0_v2 (c : Dev nD) : V m c main_call0_v2 = transpose S8x3x8192 [0, 2, 1] (m ((c : Thread nD τ).loc main_arg1)) transposes_S8x8192x3_S8x3x8192_0_2_1 := by
  show StableHlo.after (List.flatten [hostOps0]) (fun b => m (c, b)) (Proc.devRef .tc main_call0_v2) = _
  simp only [hostOps0, List.flatten_cons, List.flatten_nil, List.append_nil]
  after_results
  rfl

theorem iblk0_apply (c : Dev nD) (t : Fin cfg0.N) (j : S1x1024x8x3.Idx) :
    iblk m c 0 t j = V m c main_call0_v1 (ValueIdx.ix4 (n0 := 8) (n1 := 1024) (n2 := 8) (n3 := 3) (entry t) (j 1) (j 2) (j 3)) :=
  congrArg (V m c main_call0_v1) (emb_0 t j)
theorem iblk1_apply (c : Dev nD) (t : Fin cfg0.N) (j : S1x3x8192.Idx) :
    iblk m c 1 t j = V m c main_call0_v2 (ValueIdx.ix3 (n0 := 8) (n1 := 3) (n2 := 8192) (entry t) (j 1) (j 2)) :=
  congrArg (V m c main_call0_v2) (emb_1 t j)

/-! ## The output arrays -/

/-- The row minima, as the call leaves them. -/
def arr2 (c : Dev nD) : Vec F S8x8x8x128 .f32 := fun i => out3 lanes lanes (iblk m c 0 (gpt (i 0))) (iblk m c 1 (gpt (i 0)))
  (ValueIdx.ix4 (n0 := 1) (n1 := 8) (n2 := 8) (n3 := 128) 0 (i 1) (i 2) (i 3))
/-- The row indices. -/
def arr3 (c : Dev nD) : Vec F S8x8x8x128 .i32 := fun i => out4 lanes lanes (iblk m c 0 (gpt (i 0))) (iblk m c 1 (gpt (i 0)))
  (ValueIdx.ix4 (n0 := 1) (n1 := 8) (n2 := 8) (n3 := 128) 0 (i 1) (i 2) (i 3))
/-- The column minima. -/
def arr4 (c : Dev nD) : Vec F S8x1x8192 .f32 := fun i => out5 lanes lanes (iblk m c 0 (gpt (i 0))) (iblk m c 1 (gpt (i 0)))
  (ValueIdx.ix3 (n0 := 1) (n1 := 1) (n2 := 8192) 0 (i 1) (i 2))
/-- The column indices. -/
def arr5 (c : Dev nD) : Vec F S8x1x8192 .i32 := fun i => out6 lanes lanes (iblk m c 0 (gpt (i 0))) (iblk m c 1 (gpt (i 0)))
  (ValueIdx.ix3 (n0 := 1) (n1 := 1) (n2 := 8192) 0 (i 1) (i 2))

theorem final_2 (c : Dev nD) : (dats m 0 c).arrAt 2 cfg0.N = arr2 m c :=
  (dats m 0 c).arrAt_eq_of_cover 2 (arr2 m c)
    (fun t _ => by
      show (cfg0.win 2).cut (grid0.coords t) ((dats m 0 c).after 2 t) = _
      rw [after_2]
      funext j
      exact (congrArg (out3 lanes lanes (iblk m c 0 t) (iblk m c 1 t)) (front4 j)).trans (congrArg (arr2 m c) (emb_2 t j)).symm)
    fun i => ⟨gpt (i 0), flush0_2 _, by
      have h := ((cfg0.win 2).blk (gpt (i 0))).view.emb_mem_set (ValueIdx.ix4 (n0 := 1) (n1 := 8) (n2 := 8) (n3 := 128) 0 (i 1) (i 2) (i 3))
      rw [emb_2] at h
      exact Eq.mp (congrArg (· ∈ _) (ValueIdx.eq_ix4 i).symm) h⟩
theorem final_3 (c : Dev nD) : (dats m 0 c).arrAt 3 cfg0.N = arr3 m c :=
  (dats m 0 c).arrAt_eq_of_cover 3 (arr3 m c)
    (fun t _ => by
      show (cfg0.win 3).cut (grid0.coords t) ((dats m 0 c).after 3 t) = _
      rw [after_3]
      funext j
      exact (congrArg (out4 lanes lanes (iblk m c 0 t) (iblk m c 1 t)) (front4 j)).trans (congrArg (arr3 m c) (emb_3 t j)).symm)
    fun i => ⟨gpt (i 0), flush0_3 _, by
      have h := ((cfg0.win 3).blk (gpt (i 0))).view.emb_mem_set (ValueIdx.ix4 (n0 := 1) (n1 := 8) (n2 := 8) (n3 := 128) 0 (i 1) (i 2) (i 3))
      rw [emb_3] at h
      exact Eq.mp (congrArg (· ∈ _) (ValueIdx.eq_ix4 i).symm) h⟩
theorem arr2_at (c : Dev nD) (b g s : Fin 8) (l : Fin 128) : arr2 m c (ValueIdx.ix4 (n0 := 8) (n1 := 8) (n2 := 8) (n3 := 128) b g s l)
    = out3 lanes lanes (iblk m c 0 (gpt b)) (iblk m c 1 (gpt b)) (ValueIdx.ix4 (n0 := 1) (n1 := 8) (n2 := 8) (n3 := 128) 0 g s l) := rfl
theorem arr3_at (c : Dev nD) (b g s : Fin 8) (l : Fin 128) : arr3 m c (ValueIdx.ix4 (n0 := 8) (n1 := 8) (n2 := 8) (n3 := 128) b g s l)
    = out4 lanes lanes (iblk m c 0 (gpt b)) (iblk m c 1 (gpt b)) (ValueIdx.ix4 (n0 := 1) (n1 := 8) (n2 := 8) (n3 := 128) 0 g s l) := rfl
theorem arr4_at (c : Dev nD) (b : Fin 8) (k : Fin 8192) : arr4 m c (ValueIdx.ix3 (n0 := 8) (n1 := 1) (n2 := 8192) b 0 k)
    = out5 lanes lanes (iblk m c 0 (gpt b)) (iblk m c 1 (gpt b)) (ValueIdx.ix3 (n0 := 1) (n1 := 1) (n2 := 8192) 0 0 k) := by
  delta arr4; rfl
theorem arr5_at (c : Dev nD) (b : Fin 8) (k : Fin 8192) : arr5 m c (ValueIdx.ix3 (n0 := 8) (n1 := 1) (n2 := 8192) b 0 k)
    = out6 lanes lanes (iblk m c 0 (gpt b)) (iblk m c 1 (gpt b)) (ValueIdx.ix3 (n0 := 1) (n1 := 1) (n2 := 8192) 0 0 k) := by
  delta arr5; rfl
theorem cut_4 (t : Fin cfg0.N) (f : Vec F S1x1x8192 .f32) (j : S1x1x8192.Idx) : (cfg0.win 4).cut (grid0.coords t) f j = f j := rfl
theorem read_4 (t : Fin cfg0.N) (G : Vec F S8x1x8192 .f32) (j : S1x1x8192.Idx) :
    ((cfg0.win 4).blk t).view.read (Elt F) G j = G (ValueIdx.ix3 (n0 := 8) (n1 := 1) (n2 := 8192) (entry t) (j 1) (j 2)) := congrArg G (emb_4 t j)
theorem final_4 (c : Dev nD) : (dats m 0 c).arrAt 4 cfg0.N = arr4 m c :=
  (dats m 0 c).arrAt_eq_of_cover 4 (arr4 m c)
    (fun t _ => by
      show (cfg0.win 4).cut (grid0.coords t) ((dats m 0 c).after 4 t) = _
      rw [after_4]
      funext j
      refine Eq.trans (cut_4 t _ j) (Eq.trans ?_ (read_4 t _ j).symm)
      exact congrArg (out5 lanes lanes (iblk m c 0 t) (iblk m c 1 t)) (front3 j))
    fun i => ⟨gpt (i 0), flush0_4 _, by
      have h := ((cfg0.win 4).blk (gpt (i 0))).view.emb_mem_set (ValueIdx.ix3 (n0 := 1) (n1 := 1) (n2 := 8192) 0 (i 1) (i 2))
      rw [emb_4] at h
      exact Eq.mp (congrArg (· ∈ _) (ValueIdx.eq_ix3 i).symm) h⟩
theorem cut_5 (t : Fin cfg0.N) (f : Vec F S1x1x8192 .i32) (j : S1x1x8192.Idx) : (cfg0.win 5).cut (grid0.coords t) f j = f j := rfl
theorem read_5 (t : Fin cfg0.N) (G : Vec F S8x1x8192 .i32) (j : S1x1x8192.Idx) :
    ((cfg0.win 5).blk t).view.read (Elt F) G j = G (ValueIdx.ix3 (n0 := 8) (n1 := 1) (n2 := 8192) (entry t) (j 1) (j 2)) := congrArg G (emb_5 t j)
theorem final_5 (c : Dev nD) : (dats m 0 c).arrAt 5 cfg0.N = arr5 m c :=
  (dats m 0 c).arrAt_eq_of_cover 5 (arr5 m c)
    (fun t _ => by
      show (cfg0.win 5).cut (grid0.coords t) ((dats m 0 c).after 5 t) = _
      rw [after_5]
      funext j
      refine Eq.trans (cut_5 t _ j) (Eq.trans ?_ (read_5 t _ j).symm)
      exact congrArg (out6 lanes lanes (iblk m c 0 t) (iblk m c 1 t)) (front3 j))
    fun i => ⟨gpt (i 0), flush0_5 _, by
      have h := ((cfg0.win 5).blk (gpt (i 0))).view.emb_mem_set (ValueIdx.ix3 (n0 := 1) (n1 := 1) (n2 := 8192) 0 (i 1) (i 2))
      rw [emb_5] at h
      exact Eq.mp (congrArg (· ∈ _) (ValueIdx.eq_ix3 i).symm) h⟩

/-! ## After the call -/

/-- What the host operations after the call start from. -/
abbrev atExit (c : Dev nD) : Valuation τ sig (Elt F) :=
  Pipeline.withArrays (cfgs 0).spec c (V0 m c) fun w => (dats m 0 c).arrAt w (cfgs 0).N

theorem atExit_2 (c : Dev nD) : atExit m c (Proc.devRef .tc main_call0_v3_0) = arr2 m c :=
  (Pipeline.withArrays_arr spec0 launch0.win.arr_inj c (V0 m c) _ 2).trans (final_2 m c)
theorem atExit_3 (c : Dev nD) : atExit m c (Proc.devRef .tc main_call0_v3_1) = arr3 m c :=
  (Pipeline.withArrays_arr spec0 launch0.win.arr_inj c (V0 m c) _ 3).trans (final_3 m c)
theorem atExit_4 (c : Dev nD) : atExit m c (Proc.devRef .tc main_call0_v3_2) = arr4 m c :=
  (Pipeline.withArrays_arr spec0 launch0.win.arr_inj c (V0 m c) _ 4).trans (final_4 m c)
theorem atExit_5 (c : Dev nD) : atExit m c (Proc.devRef .tc main_call0_v3_3) = arr5 m c :=
  (Pipeline.withArrays_arr spec0 launch0.win.arr_inj c (V0 m c) _ 5).trans (final_5 m c)

/-- The first result. -/
def res1 (c : Dev nD) : Vec F S8x8192 .f32 := shapeCast S8x8192 (transpose S8x8x8x128 [0, 2, 1, 3] (arr2 m c) transposes_S8x8x8x128_S8x8x8x128_0_2_1_3) shapeCasts_S8x8x8x128_S8x8192
/-- The second result. -/
def res2 (c : Dev nD) : Vec F S8x8192 .f32 := shapeCast S8x8192 (arr4 m c) shapeCasts_S8x1x8192_S8x8192
/-- The third result. -/
def res3 (c : Dev nD) : Vec F S8x8192 .i32 := shapeCast S8x8192 (transpose S8x8x8x128 [0, 2, 1, 3] (arr3 m c) transposes_S8x8x8x128_S8x8x8x128_0_2_1_3) shapeCasts_S8x8x8x128_S8x8192
/-- The fourth result. -/
def res4 (c : Dev nD) : Vec F S8x8192 .i32 := shapeCast S8x8192 (arr5 m c) shapeCasts_S8x1x8192_S8x8192

theorem W_main_v0_0 (c : Dev nD) : Pipeline.afterTail₀ cfgs (dats m) 0 (V0 m) [hostOps1] c main_v0_0 = res1 m c := by
  unfold res1
  rw [← atExit_2]
  show StableHlo.after (List.flatten [hostOps1]) (atExit m c) (Proc.devRef .tc main_v0_0) = _
  generalize atExit m c = u
  simp only [hostOps1, List.flatten_cons, List.flatten_nil, List.append_nil]
  after_results
  rfl
theorem W_main_v0_2 (c : Dev nD) : Pipeline.afterTail₀ cfgs (dats m) 0 (V0 m) [hostOps1] c main_v0_2 = res3 m c := by
  unfold res3
  rw [← atExit_3]
  show StableHlo.after (List.flatten [hostOps1]) (atExit m c) (Proc.devRef .tc main_v0_2) = _
  generalize atExit m c = u
  simp only [hostOps1, List.flatten_cons, List.flatten_nil, List.append_nil]
  after_results
  rfl
theorem W_main_v0_1 (c : Dev nD) : Pipeline.afterTail₀ cfgs (dats m) 0 (V0 m) [hostOps1] c main_v0_1 = res2 m c := by
  unfold res2
  rw [← atExit_4]
  show StableHlo.after (List.flatten [hostOps1]) (atExit m c) (Proc.devRef .tc main_v0_1) = _
  generalize atExit m c = u
  simp only [hostOps1, List.flatten_cons, List.flatten_nil, List.append_nil]
  after_results
  rfl
theorem W_main_v0_3 (c : Dev nD) : Pipeline.afterTail₀ cfgs (dats m) 0 (V0 m) [hostOps1] c main_v0_3 = res4 m c := by
  unfold res4
  rw [← atExit_5]
  show StableHlo.after (List.flatten [hostOps1]) (atExit m c) (Proc.devRef .tc main_v0_3) = _
  generalize atExit m c = u
  simp only [hostOps1, List.flatten_cons, List.flatten_nil, List.append_nil]
  after_results
  rfl

/-- The program's run, its four results and its arguments read off. -/
theorem run_results : θ_run defs (onTc (τ := τ) (main (F := F))) ⟨m, fun _ => 0, ρ⟩ (fun r => ∀ c : Dev nD,
      r.2.mem ((c.tc : Thread nD τ).loc main_v0_0) = res1 m c
      ∧ r.2.mem ((c.tc : Thread nD τ).loc main_v0_1) = res2 m c
      ∧ r.2.mem ((c.tc : Thread nD τ).loc main_v0_2) = res3 m c
      ∧ r.2.mem ((c.tc : Thread nD τ).loc main_v0_3) = res4 m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v0_0 (Pipeline.mem_restRefs_of main_v0_0 (by decide) (by decide))).trans (W_main_v0_0 m c),
      ((h.1 c).2 main_v0_1 (Pipeline.mem_restRefs_of main_v0_1 (by decide) (by decide))).trans (W_main_v0_1 m c),
      ((h.1 c).2 main_v0_2 (Pipeline.mem_restRefs_of main_v0_2 (by decide) (by decide))).trans (W_main_v0_2 m c),
      ((h.1 c).2 main_v0_3 (Pipeline.mem_restRefs_of main_v0_3 (by decide) (by decide))).trans (W_main_v0_3 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩)
    (run_main m ρ)

end Cert.KernelIdeal.Body
end
-- ==== Proof.RefValue.lean ====
module

public import proofs.«01_k».proof.Proof.ArgMin
public import proofs.«01_k».proof.Proof.Distance
public import proofs.«01_k».proof.Proof.RefRun
public import Idealize.ShloMosaic.Lib.Pointwise.Reduce
public import Idealize.ShloMosaic.Lib.IdealHost

/-!
What the reference computes: for each point, the least of its squared distances to the points of the other cloud, and
the first point of the other cloud that is that near.
-/

@[expose] public section

set_option maxRecDepth 65536

noncomputable section

namespace Cert.ReferenceIdeal.Run

open Cert.ReferenceIdeal Cert.ReferenceIdeal.Gen Cert.ArgMin Cert.Distance
open Idealize.ShloMosaic hiding ix0 ix1 ix2 ix3 ix4 ix5
open Idealize.ShloMosaic.ValueIdx

/-! ## The reducer of an argmin -/

/-- Smaller in value, or equal in value and at a position not larger. -/
def Le (a b : EReal × BitVec 32) : Prop := a.1 < b.1 ∨ (a.1 = b.1 ∧ a.2.toNat ≤ b.2.toNat)

theorem Le.refl (a : EReal × BitVec 32) : Le a a := Or.inr ⟨rfl, le_rfl⟩

theorem Le.trans {a b c : EReal × BitVec 32} (h : Le a b) (h' : Le b c) : Le a c := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

/-- The reducer gives one of its two pairs, one that comes before the other. -/
theorem reducer_spec (a b : EReal × BitVec 32) (ha : a.2.toNat < 2 ^ 31) (hb : b.2.toNat < 2 ^ 31) :
    (reducer_argmin_f32_i32 (F := Ideal) a b = a ∧ Le a b) ∨ (reducer_argmin_f32_i32 (F := Ideal) a b = b ∧ Le b a) := by
  obtain ⟨v, i⟩ := a
  obtain ⟨w, j⟩ := b
  change i.toNat < 2 ^ 31 at ha
  change j.toNat < 2 ^ 31 at hb
  have hs : i.slt j = decide (i.toNat < j.toNat) := by
    rw [BitVec.slt, BitVec.toInt_eq_toNat_of_lt (by omega), BitVec.toInt_eq_toNat_of_lt (by omega)]
    simp
  have e : reducer_argmin_f32_i32 (F := Ideal) (v, i) (w, j)
      = (if v < w then v else w, if v < w ∨ (v = w ∧ i.toNat < j.toNat) then i else j) := by
    show (Scalar.select (IntOp.ori (Ideal.cmp .olt v w) (Ideal.cmp .une v v)) v w,
      Scalar.select (IntOp.ori (IntOp.ori (Ideal.cmp .olt v w) (Ideal.cmp .une v v))
        (IntOp.andi (Ideal.cmp .oeq v w) (BitVec.ofBool (i.slt j)))) i j) = _
    rw [hs]
    by_cases h1 : v < w
    · have h2 : v ≠ w := h1.ne
      simp [h1, h2, Ideal.cmp, IntOp.ori, IntOp.andi, Scalar.select]
    · by_cases h2 : v = w <;> by_cases h3 : i.toNat < j.toNat <;>
        simp [h1, h2, h3, Ideal.cmp, IntOp.ori, IntOp.andi, Scalar.select]
  rw [e]
  rcases lt_trichotomy v w with h | h | h
  · left; exact ⟨by simp [h], Or.inl h⟩
  · subst h
    by_cases h3 : i.toNat < j.toNat
    · left; exact ⟨by simp [h3], Or.inr ⟨rfl, h3.le⟩⟩
    · right; exact ⟨by simp [h3], Or.inr ⟨rfl, not_lt.mp h3⟩⟩
  · right
    exact ⟨by simp [not_lt.mpr h.le, h.ne'], Or.inl h⟩

/-- Folding a list with the reducer gives the pair it started from or one of the list, and one that comes before
    them all. -/
theorem foldl_reducer (l : List (EReal × BitVec 32)) (r : EReal × BitVec 32) (hr : r.2.toNat < 2 ^ 31)
    (hl : ∀ p ∈ l, p.2.toNat < 2 ^ 31) :
    (l.foldl (reducer_argmin_f32_i32 (F := Ideal)) r = r ∨ l.foldl (reducer_argmin_f32_i32 (F := Ideal)) r ∈ l)
      ∧ Le (l.foldl (reducer_argmin_f32_i32 (F := Ideal)) r) r ∧ ∀ p ∈ l, Le (l.foldl (reducer_argmin_f32_i32 (F := Ideal)) r) p := by
  induction l generalizing r with
  | nil => exact ⟨Or.inl rfl, Le.refl r, fun p hp => absurd hp List.not_mem_nil⟩
  | cons a l ih =>
    have ha := hl a List.mem_cons_self
    have hl' : ∀ p ∈ l, p.2.toNat < 2 ^ 31 := fun p hp => hl p (List.mem_cons_of_mem _ hp)
    rw [List.foldl_cons]
    rcases reducer_spec r a hr ha with ⟨e, hle⟩ | ⟨e, hle⟩
    · rw [e]
      obtain ⟨h1, h2, h3⟩ := ih r hr hl'
      exact ⟨h1.imp id (List.mem_cons_of_mem _), h2, List.forall_mem_cons.mpr ⟨h2.trans hle, h3⟩⟩
    · rw [e]
      obtain ⟨h1, h2, h3⟩ := ih a ha hl'
      exact ⟨Or.inr (h1.elim (fun h => List.mem_cons.mpr (Or.inl h)) (List.mem_cons_of_mem _)), h2.trans hle,
        List.forall_mem_cons.mpr ⟨h2, h3⟩⟩

/-! ## The array of squared distances -/

variable (a b : Clouds)

/-- The infinity both searches start from is the top extended real. -/
theorem inf_eq : Ideal.ofBits .f32 0x7F800000#32 = ⊤ := by simp [Ideal.ofBits, Ideal.ieee]

/-- The difference array, by coordinates. -/
theorem diff_apply (t : Fin 8) (n m : Fin 8192) (c : Fin 3) :
    diff (F := Ideal) a b (ix4 (n0 := 8) (n1 := 8192) (n2 := 8192) (n3 := 3) t n m c)
      = a (ix3 (n0 := 8) (n1 := 8192) (n2 := 3) t n c) - b (ix3 (n0 := 8) (n1 := 8192) (n2 := 3) t m c) := by
  unfold diff
  rw [subf_apply]
  congr 1
  · refine (broadcastInDim_apply _ _ _ _ (ix4 (n0 := 8) (n1 := 8192) (n2 := 1) (n3 := 3) t n 0 c) ?_).trans ?_
    · intro x; match x with | ⟨0, _⟩ => rfl | ⟨1, _⟩ => rfl | ⟨2, _⟩ => rfl | ⟨3, _⟩ => rfl
    · refine broadcastInDim_apply _ _ _ _ _ ?_
      intro x; match x with | ⟨0, _⟩ => rfl | ⟨1, _⟩ => rfl | ⟨2, _⟩ => rfl
  · refine (broadcastInDim_apply _ _ _ _ (ix4 (n0 := 8) (n1 := 1) (n2 := 8192) (n3 := 3) t 0 m c) ?_).trans ?_
    · intro x; match x with | ⟨0, _⟩ => rfl | ⟨1, _⟩ => rfl | ⟨2, _⟩ => rfl | ⟨3, _⟩ => rfl
    · refine broadcastInDim_apply _ _ _ _ _ ?_
      intro x; match x with | ⟨0, _⟩ => rfl | ⟨1, _⟩ => rfl | ⟨2, _⟩ => rfl

/-- The array of squared distances holds the squared distances. -/
theorem sq_apply (t : Fin 8) (n m : Fin 8192) :
    sq (F := Ideal) a b (ix3 (n0 := 8) (n1 := 8192) (n2 := 8192) t n m) = D a b t n.val m.val := by
  unfold sq
  refine (Ideal.hostReduceAdd_r4_a3 _ _ _ _).trans ?_
  rw [constant_apply, Ideal.ofBits_zero_f32, zero_add, Fin.sum_univ_three]
  simp only [mulf_apply]
  unfold D sqDist
  rw [pt_val, pt_val]
  have h := fun c => diff_apply a b t n m c
  exact congrArg₂ (· + ·) (congrArg₂ (· + ·) (congrArg₂ (· * ·) (h 0) (h 0)) (congrArg₂ (· * ·) (h 1) (h 1))) (congrArg₂ (· * ·) (h 2) (h 2))

/-! ## The two searches -/

/-- Both parts of a search at one result index, from the set of entries it runs over: they are the entries of one
    line of the array, each with its own number in the line. -/
theorem search_spec {t : Shape} {axes : List (Fin S8x8192x8192.rank)} (h : S8x8192x8192.ReducesTo axes t) (j : t.Idx)
    (ix : IVec S8x8192x8192 32) (f : ℕ → EReal) (line : Fin 8192 → S8x8192x8192.Idx) (x : S8x8192x8192.Idx → EReal)
    (hline : ∀ i, h.drop i = j ↔ ∃ k, i = line k) (hval : ∀ k, x (line k) = f k.val) (hpos : ∀ k, ix (line k) = BitVec.ofNat 32 k.val) :
    IsFirst f 8192 (Host.reduce (FloatOps.minimumf (F := Ideal) (φ := .f32)) x (constant (F := Ideal) S_ .f32 0x7F800000#32) h h_S_ j)
      (Host.argReduce (F := Ideal) (reducer_argmin_f32_i32 (F := Ideal)) x ix (constant (F := Ideal) S_ .f32 0x7F800000#32) (constantI S_ 32 0#32) h h_S_ j).2.toNat := by
  rw [Ideal.argReduce_eq_reduce2, Host.reduce2_eq_foldl_fiber, Host.reduce_eq_fold]
  have hmem : ∀ p : EReal × BitVec 32, p ∈ Host.argReduceFiber x ix h j ↔ ∃ k : Fin 8192, p = (f k.val, BitVec.ofNat 32 k.val) := by
    intro p
    simp only [Host.argReduceFiber, List.mem_map, List.mem_filter, List.mem_finRange, true_and, decide_eq_true_eq]
    constructor
    · rintro ⟨n, hn, rfl⟩
      obtain ⟨k, hk⟩ := (hline _).mp hn
      exact ⟨k, by rw [hk, hval, hpos]⟩
    · rintro ⟨k, rfl⟩
      refine ⟨S8x8192x8192.rowMajor (line k), ?_, ?_⟩
      · rw [Equiv.symm_apply_apply]; exact (hline _).mpr ⟨k, rfl⟩
      · rw [Equiv.symm_apply_apply, hval, hpos]
  have hword : ∀ k : Fin 8192, (BitVec.ofNat 32 k.val).toNat = k.val := fun k => by
    rw [BitVec.toNat_ofNat]; exact Nat.mod_eq_of_lt (by have := k.isLt; omega)
  have hne : (Finset.univ.filter fun i => h.drop i = j).Nonempty :=
    ⟨line 0, Finset.mem_filter.mpr ⟨Finset.mem_univ _, (hline _).mpr ⟨0, rfl⟩⟩⟩
  rw [show (constant (F := Ideal) S_ .f32 0x7F800000#32) (Shape.Idx.first h_S_) = ⊤ from inf_eq]
  obtain ⟨hle, i₀, hi₀, hv₀⟩ := fold_min_spec _ hne x
  obtain ⟨k₀, hk₀⟩ := (hline i₀).mp (Finset.mem_filter.mp hi₀).2
  have hlev : ∀ k : Fin 8192, (Finset.univ.filter fun i => h.drop i = j).fold min ⊤ x ≤ f k.val := fun k =>
    hval k ▸ hle _ (Finset.mem_filter.mpr ⟨Finset.mem_univ _, (hline _).mpr ⟨k, rfl⟩⟩)
  change IsFirst f 8192 ((Finset.univ.filter fun i => h.drop i = j).fold min ⊤ x) _
  generalize (Finset.univ.filter fun i => h.drop i = j).fold min ⊤ x = v at hv₀ hlev
  obtain ⟨h1, h2, h3⟩ := foldl_reducer (Host.argReduceFiber x ix h j) ((⊤ : EReal), 0#32) (by decide) fun p hp => by
    obtain ⟨k, rfl⟩ := (hmem p).mp hp
    rw [hword]; have := k.isLt; omega
  rw [show (constantI S_ 32 0#32) (Shape.Idx.first h_S_) = 0#32 from rfl]
  generalize (Host.argReduceFiber x ix h j).foldl (reducer_argmin_f32_i32 (F := Ideal)) ((⊤ : EReal), 0#32) = r at h1 h2 h3
  have hk : ∃ k : Fin 8192, r = (f k.val, BitVec.ofNat 32 k.val) := by
    rcases h1 with h1 | h1
    · refine ⟨0, ?_⟩
      rcases h3 _ ((hmem _).mpr ⟨0, rfl⟩) with h | ⟨h, _⟩
      · rw [h1] at h; exact absurd h not_top_lt
      · rw [h1] at h ⊢; exact Prod.ext h rfl
    · exact (hmem r).mp h1
  obtain ⟨k, rfl⟩ := hk
  have hall : ∀ i : Fin 8192, f k.val < f i.val ∨ (f k.val = f i.val ∧ k.val ≤ i.val) := fun i => by
    have := h3 _ ((hmem _).mpr ⟨i, rfl⟩)
    unfold Le at this
    simpa only [hword] using this
  have hv : f k.val = v := by
    refine le_antisymm ?_ (hlev k)
    rw [← hv₀, hk₀, hval]
    rcases hall k₀ with h | ⟨h, _⟩
    · exact h.le
    · exact h.le
  show IsFirst f 8192 v (BitVec.ofNat 32 k.val).toNat
  rw [hword]
  refine ⟨k.isLt, hv, fun i hi => hlev ⟨i, hi⟩, fun i hi => ?_⟩
  rcases hall ⟨i, hi.trans k.isLt⟩ with h | ⟨_, h⟩
  · rwa [hv] at h
  · exact absurd hi (not_lt.mpr h)

/-- The entries a search along the last axis runs over. -/
theorem line_last (t : Fin 8) (n : Fin 8192) (i : S8x8192x8192.Idx) :
    reducesTo_S8x8192x8192_S8x8192_d2.drop i = ix2 (n0 := 8) (n1 := 8192) t n ↔ ∃ k : Fin 8192, i = ix3 (n0 := 8) (n1 := 8192) (n2 := 8192) t n k :=
  (Shape.ReducesTo.fiber_r3_a2 reducesTo_S8x8192x8192_S8x8192_d2 _ i).trans (exists_congr fun _ => eq_comm)

/-- The entries a search along the middle axis runs over. -/
theorem line_mid (t : Fin 8) (m : Fin 8192) (i : S8x8192x8192.Idx) :
    reducesTo_S8x8192x8192_S8x8192_d1.drop i = ix2 (n0 := 8) (n1 := 8192) t m ↔ ∃ k : Fin 8192, i = ix3 (n0 := 8) (n1 := 8192) (n2 := 8192) t k m :=
  (Shape.ReducesTo.fiber_r3_a1 reducesTo_S8x8192x8192_S8x8192_d1 _ i).trans (exists_congr fun _ => eq_comm)

/-- For a point of the first cloud: the least squared distance to the second cloud, and the first point at it. -/
theorem rows_spec (t : Fin 8) (n : Fin 8192) :
    IsFirst (fun m => D a b t n.val m) 8192 (dist1 (F := Ideal) a b (ix2 (n0 := 8) (n1 := 8192) t n)) (idx1 (F := Ideal) a b (ix2 (n0 := 8) (n1 := 8192) t n)).toNat := by
  have h := search_spec reducesTo_S8x8192x8192_S8x8192_d2 (ix2 (n0 := 8) (n1 := 8192) t n) (iotaInDim S8x8192x8192 32 2)
    (fun m => D a b t n.val m) (fun k => ix3 (n0 := 8) (n1 := 8192) (n2 := 8192) t n k) (sq (F := Ideal) a b) (line_last t n)
    (fun k => sq_apply a b t n k) (fun _ => iotaInDim_apply _ _ _)
  rw [dist1_eq, idx1_eq]
  beta_reduce
  exact h

/-- For a point of the second cloud: the least squared distance to the first cloud, and the first point at it. -/
theorem cols_spec (t : Fin 8) (m : Fin 8192) :
    IsFirst (fun n => D a b t n m.val) 8192 (dist2 (F := Ideal) a b (ix2 (n0 := 8) (n1 := 8192) t m)) (idx2 (F := Ideal) a b (ix2 (n0 := 8) (n1 := 8192) t m)).toNat := by
  have h := search_spec reducesTo_S8x8192x8192_S8x8192_d1 (ix2 (n0 := 8) (n1 := 8192) t m) (iotaInDim S8x8192x8192 32 1)
    (fun n => D a b t n m.val) (fun k => ix3 (n0 := 8) (n1 := 8192) (n2 := 8192) t k m) (sq (F := Ideal) a b) (line_mid t m)
    (fun k => sq_apply a b t k m) (fun _ => iotaInDim_apply _ _ _)
  rw [dist2_eq, idx2_eq]
  beta_reduce
  exact h

end Cert.ReferenceIdeal.Run
end
-- ==== Proof.Equation.lean ====
module

public import proofs.«01_k».proof.Proof.GroupValue
public import proofs.«01_k».proof.Proof.Arrays
public import proofs.«01_k».proof.Proof.RefValue

/-!
The equation of the two programs over the extended reals: each of the kernel's four results is the reference's, since
both name, for every point, the least squared distance to the other cloud and the first point at that distance.
-/

@[expose] public section

set_option maxRecDepth 65536

noncomputable section

namespace Cert.KernelIdeal.Body

open Cert.KernelIdeal Cert.KernelIdeal.Gen Cert.ArgMin Cert.Distance
open Idealize.ShloMosaic hiding ix0 ix1 ix2 ix3 ix4 ix5
open Idealize.ShloMosaic.TcCoe
open Idealize.ShloMosaic.ValueIdx

variable (m : (ℓ : Loc nD τ sig) → Buf (Elt Ideal) ℓ) (c : Dev nD)

/-- The first argument. -/
abbrev argA : Clouds := m ((c : Thread nD τ).loc main_arg0)
/-- The second argument. -/
abbrev argB : Clouds := m ((c : Thread nD τ).loc main_arg1)

/-! ## The blocks' points are the arguments' points -/

/-- The host's split of the first cloud into eight groups of 1024 points. -/
theorem split_x {α : Type} (v : S8x8192x3.Idx → α) (t s : Fin 8) (r : ℕ) (hr : r < 1024) (k : Fin 3) :
    shapeCast S8x8x1024x3 v shapeCasts_S8x8192x3_S8x8x1024x3 (ix4 (n0 := 8) (n1 := 8) (n2 := 1024) (n3 := 3) t s ⟨r % 1024, Nat.mod_lt _ (by decide)⟩ k)
      = v (ix3 (n0 := 8) (n1 := 8192) (n2 := 3) t ⟨(1024 * s.val + r) % 8192, Nat.mod_lt _ (by decide)⟩ k) :=
  shapeCast_apply _ _ _ _ (by
    have hs := s.isLt
    rw [Shape.rowMajor_val_three, Shape.rowMajor_val_four]
    show (t.val * 8192 + (1024 * s.val + r) % 8192) * 3 + k.val = ((t.val * 8 + s.val) * 1024 + r % 1024) * 3 + k.val
    omega)

theorem block_x (t s : Fin 8) (r : ℕ) (hr : r < 1024) : xPt (iblk m c 0 (gpt t)) s r = pt (argA m c) t (1024 * s.val + r) := by
  funext k
  have hs := s.isLt
  unfold xPt pt
  rw [iblk0_apply, V_main_call0_v1]
  refine (transpose_apply _ _ _ _ (ix4 (n0 := 8) (n1 := 8) (n2 := 1024) (n3 := 3) t s ⟨r % 1024, Nat.mod_lt _ (by decide)⟩ k) fun a => ?_).trans ?_
  · match a with
    | ⟨0, _⟩ => rfl
    | ⟨1, _⟩ => rfl
    | ⟨2, _⟩ => rfl
    | ⟨3, _⟩ => rfl
  · exact split_x _ t s r hr k

theorem block_y (t : Fin 8) (n : ℕ) : yPt (iblk m c 1 (gpt t)) n = pt (argB m c) t n := by
  funext k
  unfold yPt pt
  rw [iblk1_apply, V_main_call0_v2]
  refine transpose_apply _ _ _ _ _ fun a => ?_
  match a with
  | ⟨0, _⟩ => rfl
  | ⟨1, _⟩ => rfl
  | ⟨2, _⟩ => rfl

theorem block_xAll (t : Fin 8) (n : ℕ) (hn : n < 8192) : xAll (iblk m c 0 (gpt t)) n = pt (argA m c) t n := by
  unfold xAll
  rw [block_x m c t _ _ (Nat.mod_lt _ (by decide))]
  congr 1
  show 1024 * (n / 1024 % 8) + n % 1024 = n
  omega

/-! ## The results, at an index -/

/-- The group of row `n`, its sublane, its lane. -/
abbrev grpR (n : Fin 8192) : Fin 8 := ⟨n.val / 128 % 8, Nat.mod_lt _ (by decide)⟩
abbrev subR (n : Fin 8192) : Fin 8 := ⟨n.val / 1024, by have := n.isLt; omega⟩
abbrev laneR (n : Fin 8192) : Fin 128 := ⟨n.val % 128, Nat.mod_lt _ (by decide)⟩

/-- The host's rearrangement of a row result. -/
theorem unrow {α : Type} (v : S8x8x8x128.Idx → α) (t : Fin 8) (n : Fin 8192) :
    shapeCast S8x8192 (transpose S8x8x8x128 [0, 2, 1, 3] v transposes_S8x8x8x128_S8x8x8x128_0_2_1_3) shapeCasts_S8x8x8x128_S8x8192 (ix2 (n0 := 8) (n1 := 8192) t n)
      = v (ix4 (n0 := 8) (n1 := 8) (n2 := 8) (n3 := 128) t (grpR n) (subR n) (laneR n)) := by
  refine (shapeCast_apply _ _ _ (ix4 (n0 := 8) (n1 := 8) (n2 := 8) (n3 := 128) t (subR n) (grpR n) (laneR n)) ?_).trans (transpose_apply _ _ _ _ _ fun a => ?_)
  · rw [Shape.rowMajor_val_two, Shape.rowMajor_val_four]
    show ((t.val * 8 + n.val / 1024) * 8 + n.val / 128 % 8) * 128 + n.val % 128 = t.val * 8192 + n.val
    omega
  · match a with
    | ⟨0, _⟩ => rfl
    | ⟨1, _⟩ => rfl
    | ⟨2, _⟩ => rfl
    | ⟨3, _⟩ => rfl

/-- The host's reshape of a column result. -/
theorem uncol {α : Type} (v : S8x1x8192.Idx → α) (t : Fin 8) (n : Fin 8192) :
    shapeCast S8x8192 v shapeCasts_S8x1x8192_S8x8192 (ix2 (n0 := 8) (n1 := 8192) t n) = v (ix3 (n0 := 8) (n1 := 1) (n2 := 8192) t 0 n) :=
  shapeCast_apply _ _ _ _ (by
    rw [Shape.rowMajor_val_two, Shape.rowMajor_val_three]
    show (t.val * 1 + 0) * 8192 + n.val = t.val * 8192 + n.val
    omega)

/-- The kernel's first and third result: the nearest point of the second cloud. -/
theorem res_rows (t : Fin 8) (n : Fin 8192) : IsFirst (fun k => D (argA m c) (argB m c) t n.val k) 8192
    (res1 m c (ix2 (n0 := 8) (n1 := 8192) t n)) (BitVec.toNat (res3 m c (ix2 (n0 := 8) (n1 := 8192) t n))) := by
  unfold res1 res3
  rw [unrow, unrow, arr2_at, arr3_at]
  refine (outRows_spec (iblk m c 0 (gpt t)) (iblk m c 1 (gpt t)) (grpR n) (subR n) (laneR n)).congr fun k _ => ?_
  have hn := n.isLt
  rw [block_x m c t _ _ (by show 128 * (n.val / 128 % 8) + n.val % 128 < 1024; omega), block_y]
  unfold D
  have e : 1024 * (n.val / 1024) + (128 * (n.val / 128 % 8) + n.val % 128) = n.val := by omega
  exact congrArg (fun i => sqDist (pt (argA m c) t i) (pt (argB m c) t k)) e

/-- The kernel's second and fourth result: the nearest point of the first cloud. -/
theorem res_cols (t : Fin 8) (k : Fin 8192) : IsFirst (fun n => D (argA m c) (argB m c) t n k.val) 8192
    (res2 m c (ix2 (n0 := 8) (n1 := 8192) t k)) (BitVec.toNat (res4 m c (ix2 (n0 := 8) (n1 := 8192) t k))) := by
  unfold res2 res4
  rw [uncol, uncol, arr4_at, arr5_at]
  refine (outCols_spec (iblk m c 0 (gpt t)) (iblk m c 1 (gpt t)) k).congr fun n hn => ?_
  rw [block_xAll m c t n hn, block_y]
  rfl

/-! ## The equations -/

open Cert.ReferenceIdeal.Run in
theorem res1_eq : res1 m c = dist1 (F := Ideal) (argA m c) (argB m c) := by
  funext i
  rw [ValueIdx.eq_ix2 i]
  exact (IsFirst.unique (res_rows m c (i 0) (i 1)) (rows_spec (argA m c) (argB m c) (i 0) (i 1))).1

open Cert.ReferenceIdeal.Run in
theorem res3_eq : res3 m c = idx1 (F := Ideal) (argA m c) (argB m c) := by
  funext i
  rw [ValueIdx.eq_ix2 i]
  exact BitVec.eq_of_toNat_eq (IsFirst.unique (res_rows m c (i 0) (i 1)) (rows_spec (argA m c) (argB m c) (i 0) (i 1))).2

open Cert.ReferenceIdeal.Run in
theorem res2_eq : res2 m c = dist2 (F := Ideal) (argA m c) (argB m c) := by
  funext i
  rw [ValueIdx.eq_ix2 i]
  exact (IsFirst.unique (res_cols m c (i 0) (i 1)) (cols_spec (argA m c) (argB m c) (i 0) (i 1))).1

open Cert.ReferenceIdeal.Run in
theorem res4_eq : res4 m c = idx2 (F := Ideal) (argA m c) (argB m c) := by
  funext i
  rw [ValueIdx.eq_ix2 i]
  exact BitVec.eq_of_toNat_eq (IsFirst.unique (res_cols m c (i 0) (i 1)) (cols_spec (argA m c) (argB m c) (i 0) (i 1))).2

end Cert.KernelIdeal.Body
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Transfer
public import proofs.«01_k».proof.Proof.RefRun
public import proofs.«01_k».proof.Proof.Equation

/-!
The certificate: the three frames, that the idealization is the kernel's own text, and that over the extended reals the
kernel's four results are the reference's.
-/

@[expose] public section

noncomputable section

open Idealize.ShloMosaic Idealize.ShloMosaic.TcCoe Idealize.SL.Sem

open Cert.KernelIdeal.Body Cert.ReferenceIdeal.Run in
/-- From equal arguments, the kernel and the reference end with the same four results. -/
theorem Cert.Proof.algebraic : Cert.algebraic_KernelIdeal_ReferenceIdeal :=
  fun m ρ m' ρ' _ hargs => ⟨res1 m, res2 m, res3 m, res4 m, run_results m ρ,
    (θ_run Cert.ReferenceIdeal.defs _ _).mono
      (fun _ h c => ⟨(h c).1.trans ((congrArg₂ (dist1 (F := Ideal)) (hargs c).1 (hargs c).2).trans (res1_eq m c).symm),
        (h c).2.1.trans ((congrArg₂ (dist2 (F := Ideal)) (hargs c).1 (hargs c).2).trans (res2_eq m c).symm),
        (h c).2.2.1.trans ((congrArg₂ (idx1 (F := Ideal)) (hargs c).1 (hargs c).2).trans (res3_eq m c).symm),
        (h c).2.2.2.1.trans ((congrArg₂ (idx2 (F := Ideal)) (hargs c).1 (hargs c).2).trans (res4_eq m c).symm),
        (h c).2.2.2.2⟩)
      (Cert.ReferenceIdeal.Run.run (F := Ideal) m' ρ')⟩

theorem Cert.Proof.claim : Cert.Claim :=
  ⟨Cert.Kernel.Gen.facts, Cert.KernelIdeal.Gen.facts, Cert.ReferenceIdeal.Gen.facts,
    fun m ρ _ => Cert.Proof.Transfer.frame_any Bits m ρ,
    fun m ρ _ => Cert.KernelIdeal.Body.frame_any m ρ,
    fun m ρ _ => (θ_run Cert.ReferenceIdeal.defs _ _).mono
      (fun r h => ⟨fun c => (h c).2.2.2.2, Idealize.ShloMosaic.sem_eq_zero_of_no_sems (by decide) r.2⟩)
      (Cert.ReferenceIdeal.Run.run (F := Ideal) m ρ),
    trivial, Cert.Proof.algebraic⟩
end
